-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S4096x64 : Shape := ⟨2, ![4096, 64]⟩
abbrev S4096x3456 : Shape := ⟨2, ![4096, 3456]⟩
abbrev S64x6912 : Shape := ⟨2, ![64, 6912]⟩
abbrev S4096x6912 : Shape := ⟨2, ![4096, 6912]⟩
abbrev S1024x4096 : Shape := ⟨2, ![1024, 4096]⟩
abbrev S1024x64 : Shape := ⟨2, ![1024, 64]⟩
abbrev S4096x384 : Shape := ⟨2, ![4096, 384]⟩
abbrev S64x768 : Shape := ⟨2, ![64, 768]⟩
abbrev S1024x768 : Shape := ⟨2, ![1024, 768]⟩
abbrev S4096x768 : Shape := ⟨2, ![4096, 768]⟩
abbrev S8x128 : Shape := ⟨2, ![8, 128]⟩
abbrev S1x128 : Shape := ⟨2, ![1, 128]⟩
abbrev S32x128 : Shape := ⟨2, ![32, 128]⟩
abbrev S8x128x1 : Shape := ⟨3, ![8, 128, 1]⟩

abbrev nBuf : Space → Nat
  | .hbm => 6
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x64, .bf16⟩
  | .hbm, ⟨2, _⟩ => ⟨S4096x3456, .i8⟩
  | .hbm, ⟨3, _⟩ => ⟨S64x6912, .f32⟩
  | .hbm, ⟨4, _⟩ => ⟨S64x6912, .bf16⟩
  | .hbm, ⟨5, _⟩ => ⟨S4096x6912, .bf16⟩
  | .local _ .vmem, ⟨0, _⟩ => ⟨S1024x4096, .bf16⟩
  | .local _ .vmem, ⟨1, _⟩ => ⟨S1024x4096, .bf16⟩
  | .local _ .vmem, ⟨2, _⟩ => ⟨S1024x64, .bf16⟩
  | .local _ .vmem, ⟨3, _⟩ => ⟨S1024x64, .bf16⟩
  | .local _ .vmem, ⟨4, _⟩ => ⟨S4096x384, .i8⟩
  | .local _ .vmem, ⟨5, _⟩ => ⟨S4096x384, .i8⟩
  | .local _ .vmem, ⟨6, _⟩ => ⟨S64x768, .f32⟩
  | .local _ .vmem, ⟨7, _⟩ => ⟨S64x768, .f32⟩
  | .local _ .vmem, ⟨8, _⟩ => ⟨S64x768, .bf16⟩
  | .local _ .vmem, ⟨9, _⟩ => ⟨S64x768, .bf16⟩
  | .local _ .vmem, ⟨10, _⟩ => ⟨S1024x768, .bf16⟩
  | .local _ .vmem, ⟨11, _⟩ => ⟨S1024x768, .bf16⟩
  | .local _ .vmem, ⟨12, _⟩ => ⟨S4096x768, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![9, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c8_i32 : BitVec 32 := 8#32
  let v23 : BitVec 32 := Scalar.addi c0_i32_14 c8_i32
  let c1_i32_15 : BitVec 32 := 1#32
  ⟨c0_i32_14, v23, c1_i32_15⟩
def k0_off1 (k0_t1 : Fin k0_t1_loop.trips) : Fin 2 → Nat :=
  let c0_i32_14 : BitVec 32 := 0#32
  let c1_i32_15 : BitVec 32 := 1#32
  let arg9 : BitVec 32 := Scf.iv c0_i32_14 c1_i32_15 k0_t1
  let c8_i32_46 : BitVec 32 := 8#32
  let v49 : BitVec 32 := Scalar.muli arg9 c8_i32_46
  let v50 : Index := Scalar.indexCast v49
  let c0_47 : Index := 0#32
  ![v50.toNat, 0]
def k0_mult1 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_48 : BitVec 32 := 8#32
  let v54 : BitVec 32 := Scalar.muli arg9 c8_i32_48
  let c0_i32_49 : BitVec 32 := 0#32
  let v55 : BitVec 32 := Scalar.addi v54 c0_i32_49
  let c64_i32_50 : BitVec 32 := 64#32
  let v56 : BitVec 32 := Scalar.muli v55 c64_i32_50
  let c0_i32_51 : BitVec 32 := 0#32
  let v57 : BitVec 32 := Scalar.addi v56 c0_i32_51
  v57
def k0_off2 (k0_t1 : Fin k0_t1_loop.trips) (c0_i32_49 : BitVec 32) (c0_i32_51 : BitVec 32) : Fin 2 → Nat :=
  let c0_i32_14 : BitVec 32 := 0#32
  let c1_i32_15 : BitVec 32 := 1#32
  let arg9 : BitVec 32 := Scf.iv c0_i32_14 c1_i32_15 k0_t1
  let c8_i32_48 : BitVec 32 := 8#32
  let v54 : BitVec 32 := Scalar.muli arg9 c8_i32_48
  let v55 : BitVec 32 := Scalar.addi v54 c0_i32_49
  let c64_i32_50 : BitVec 32 := 64#32
  let v56 : BitVec 32 := Scalar.muli v55 c64_i32_50
  let v57 : BitVec 32 := Scalar.addi v56 c0_i32_51
  let v58 : BitVec 32 := v57
  let v59 : Index := Scalar.indexCast v58
  let c0_52 : Index := 0#32
  ![v59.toNat, 0]
def k0_off3 (k0_t1 : Fin k0_t1_loop.trips) (c0_i32_49 : BitVec 32) (c0_i32_51 : BitVec 32) : Fin 2 → Nat :=
  let c0_i32_14 : BitVec 32 := 0#32
  let c1_i32_15 : BitVec 32 := 1#32
  let arg9 : BitVec 32 := Scf.iv c0_i32_14 c1_i32_15 k0_t1
  let c8_i32_48 : BitVec 32 := 8#32
  let v54 : BitVec 32 := Scalar.muli arg9 c8_i32_48
  let v55 : BitVec 32 := Scalar.addi v54 c0_i32_49
  let c64_i32_50 : BitVec 32 := 64#32
  let v56 : BitVec 32 := Scalar.muli v55 c64_i32_50
  let v57 : BitVec 32 := Scalar.addi v56 c0_i32_51
  let v58 : BitVec 32 := v57
  let v79 : Index := Scalar.indexCast v58
  let c0_55 : Index := 0#32
  ![v79.toNat, 0]
def k0_mult2 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_56 : BitVec 32 := 8#32
  let v83 : BitVec 32 := Scalar.muli arg9 c8_i32_56
  let c0_i32_57 : BitVec 32 := 0#32
  let v84 : BitVec 32 := Scalar.addi v83 c0_i32_57
  let c64_i32_58 : BitVec 32 := 64#32
  let v85 : BitVec 32 := Scalar.muli v84 c64_i32_58
  let c32_i32 : BitVec 32 := 32#32
  let v86 : BitVec 32 := Scalar.addi v85 c32_i32
  v86
def k0_mult3 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_65 : BitVec 32 := 8#32
  let v113 : BitVec 32 := Scalar.muli arg9 c8_i32_65
  let c1_i32_66 : BitVec 32 := 1#32
  let v114 : BitVec 32 := Scalar.addi v113 c1_i32_66
  let c64_i32_67 : BitVec 32 := 64#32
  let v115 : BitVec 32 := Scalar.muli v114 c64_i32_67
  let c0_i32_68 : BitVec 32 := 0#32
  let v116 : BitVec 32 := Scalar.addi v115 c0_i32_68
  v116
def k0_mult4 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_75 : BitVec 32 := 8#32
  let v142 : BitVec 32 := Scalar.muli arg9 c8_i32_75
  let c1_i32_76 : BitVec 32 := 1#32
  let v143 : BitVec 32 := Scalar.addi v142 c1_i32_76
  let c64_i32_77 : BitVec 32 := 64#32
  let v144 : BitVec 32 := Scalar.muli v143 c64_i32_77
  let c32_i32_78 : BitVec 32 := 32#32
  let v145 : BitVec 32 := Scalar.addi v144 c32_i32_78
  v145
def k0_mult5 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_85 : BitVec 32 := 8#32
  let v172 : BitVec 32 := Scalar.muli arg9 c8_i32_85
  let c2_i32 : BitVec 32 := 2#32
  let v173 : BitVec 32 := Scalar.addi v172 c2_i32
  let c64_i32_86 : BitVec 32 := 64#32
  let v174 : BitVec 32 := Scalar.muli v173 c64_i32_86
  let c0_i32_87 : BitVec 32 := 0#32
  let v175 : BitVec 32 := Scalar.addi v174 c0_i32_87
  v175
def k0_mult6 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_94 : BitVec 32 := 8#32
  let v201 : BitVec 32 := Scalar.muli arg9 c8_i32_94
  let c2_i32_95 : BitVec 32 := 2#32
  let v202 : BitVec 32 := Scalar.addi v201 c2_i32_95
  let c64_i32_96 : BitVec 32 := 64#32
  let v203 : BitVec 32 := Scalar.muli v202 c64_i32_96
  let c32_i32_97 : BitVec 32 := 32#32
  let v204 : BitVec 32 := Scalar.addi v203 c32_i32_97
  v204
def k0_mult7 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_104 : BitVec 32 := 8#32
  let v231 : BitVec 32 := Scalar.muli arg9 c8_i32_104
  let c3_i32 : BitVec 32 := 3#32
  let v232 : BitVec 32 := Scalar.addi v231 c3_i32
  let c64_i32_105 : BitVec 32 := 64#32
  let v233 : BitVec 32 := Scalar.muli v232 c64_i32_105
  let c0_i32_106 : BitVec 32 := 0#32
  let v234 : BitVec 32 := Scalar.addi v233 c0_i32_106
  v234
def k0_mult8 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_113 : BitVec 32 := 8#32
  let v260 : BitVec 32 := Scalar.muli arg9 c8_i32_113
  let c3_i32_114 : BitVec 32 := 3#32
  let v261 : BitVec 32 := Scalar.addi v260 c3_i32_114
  let c64_i32_115 : BitVec 32 := 64#32
  let v262 : BitVec 32 := Scalar.muli v261 c64_i32_115
  let c32_i32_116 : BitVec 32 := 32#32
  let v263 : BitVec 32 := Scalar.addi v262 c32_i32_116
  v263
def k0_mult9 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_123 : BitVec 32 := 8#32
  let v290 : BitVec 32 := Scalar.muli arg9 c8_i32_123
  let c4_i32_124 : BitVec 32 := 4#32
  let v291 : BitVec 32 := Scalar.addi v290 c4_i32_124
  let c64_i32_125 : BitVec 32 := 64#32
  let v292 : BitVec 32 := Scalar.muli v291 c64_i32_125
  let c0_i32_126 : BitVec 32 := 0#32
  let v293 : BitVec 32 := Scalar.addi v292 c0_i32_126
  v293
def k0_mult10 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_133 : BitVec 32 := 8#32
  let v319 : BitVec 32 := Scalar.muli arg9 c8_i32_133
  let c4_i32_134 : BitVec 32 := 4#32
  let v320 : BitVec 32 := Scalar.addi v319 c4_i32_134
  let c64_i32_135 : BitVec 32 := 64#32
  let v321 : BitVec 32 := Scalar.muli v320 c64_i32_135
  let c32_i32_136 : BitVec 32 := 32#32
  let v322 : BitVec 32 := Scalar.addi v321 c32_i32_136
  v322
def k0_mult11 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_143 : BitVec 32 := 8#32
  let v349 : BitVec 32 := Scalar.muli arg9 c8_i32_143
  let c5_i32 : BitVec 32 := 5#32
  let v350 : BitVec 32 := Scalar.addi v349 c5_i32
  let c64_i32_144 : BitVec 32 := 64#32
  let v351 : BitVec 32 := Scalar.muli v350 c64_i32_144
  let c0_i32_145 : BitVec 32 := 0#32
  let v352 : BitVec 32 := Scalar.addi v351 c0_i32_145
  v352
def k0_mult12 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_152 : BitVec 32 := 8#32
  let v378 : BitVec 32 := Scalar.muli arg9 c8_i32_152
  let c5_i32_153 : BitVec 32 := 5#32
  let v379 : BitVec 32 := Scalar.addi v378 c5_i32_153
  let c64_i32_154 : BitVec 32 := 64#32
  let v380 : BitVec 32 := Scalar.muli v379 c64_i32_154
  let c32_i32_155 : BitVec 32 := 32#32
  let v381 : BitVec 32 := Scalar.addi v380 c32_i32_155
  v381
def k0_mult13 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_162 : BitVec 32 := 8#32
  let v408 : BitVec 32 := Scalar.muli arg9 c8_i32_162
  let c6_i32 : BitVec 32 := 6#32
  let v409 : BitVec 32 := Scalar.addi v408 c6_i32
  let c64_i32_163 : BitVec 32 := 64#32
  let v410 : BitVec 32 := Scalar.muli v409 c64_i32_163
  let c0_i32_164 : BitVec 32 := 0#32
  let v411 : BitVec 32 := Scalar.addi v410 c0_i32_164
  v411
def k0_mult14 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_171 : BitVec 32 := 8#32
  let v437 : BitVec 32 := Scalar.muli arg9 c8_i32_171
  let c6_i32_172 : BitVec 32 := 6#32
  let v438 : BitVec 32 := Scalar.addi v437 c6_i32_172
  let c64_i32_173 : BitVec 32 := 64#32
  let v439 : BitVec 32 := Scalar.muli v438 c64_i32_173
  let c32_i32_174 : BitVec 32 := 32#32
  let v440 : BitVec 32 := Scalar.addi v439 c32_i32_174
  v440
def k0_mult15 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_181 : BitVec 32 := 8#32
  let v467 : BitVec 32 := Scalar.muli arg9 c8_i32_181
  let c7_i32 : BitVec 32 := 7#32
  let v468 : BitVec 32 := Scalar.addi v467 c7_i32
  let c64_i32_182 : BitVec 32 := 64#32
  let v469 : BitVec 32 := Scalar.muli v468 c64_i32_182
  let c0_i32_183 : BitVec 32 := 0#32
  let v470 : BitVec 32 := Scalar.addi v469 c0_i32_183
  v470
def k0_mult16 (k0_t1 : Fin k0_t1_loop.trips) : BitVec 32 :=
  let c0_i32_14 : BitVec 32 := 0#32
  let c1_i32_15 : BitVec 32 := 1#32
  let arg9 : BitVec 32 := Scf.iv c0_i32_14 c1_i32_15 k0_t1
  let c8_i32_190 : BitVec 32 := 8#32
  let v496 : BitVec 32 := Scalar.muli arg9 c8_i32_190
  let c7_i32_191 : BitVec 32 := 7#32
  let v497 : BitVec 32 := Scalar.addi v496 c7_i32_191
  let c64_i32_192 : BitVec 32 := 64#32
  let v498 : BitVec 32 := Scalar.muli v497 c64_i32_192
  let c32_i32_193 : BitVec 32 := 32#32
  let v499 : BitVec 32 := Scalar.addi v498 c32_i32_193
  v499
@[reducible] def k0_t2_loop : Scf.Loop 32 :=
  let c0_i32_18 : BitVec 32 := 0#32
  let c8_i32_19 : BitVec 32 := 8#32
  let v28 : BitVec 32 := Scalar.addi c0_i32_18 c8_i32_19
  let c1_i32_20 : BitVec 32 := 1#32
  ⟨c0_i32_18, v28, c1_i32_20⟩
def k0_off4 (k0_t2 : Fin k0_t2_loop.trips) : Fin 2 → Nat :=
  let c0_i32_18 : BitVec 32 := 0#32
  let c1_i32_20 : BitVec 32 := 1#32
  let arg9 : BitVec 32 := Scf.iv c0_i32_18 c1_i32_20 k0_t2
  let c8_i32_46 : BitVec 32 := 8#32
  let v49 : BitVec 32 := Scalar.muli arg9 c8_i32_46
  let v50 : Index := Scalar.indexCast v49
  let c128 : Index := 128#32
  ![v50.toNat, 128]
def k0_mult17 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_47 : BitVec 32 := 8#32
  let v54 : BitVec 32 := Scalar.muli arg9 c8_i32_47
  let c0_i32_48 : BitVec 32 := 0#32
  let v55 : BitVec 32 := Scalar.addi v54 c0_i32_48
  let c64_i32_49 : BitVec 32 := 64#32
  let v56 : BitVec 32 := Scalar.muli v55 c64_i32_49
  let c0_i32_50 : BitVec 32 := 0#32
  let v57 : BitVec 32 := Scalar.addi v56 c0_i32_50
  v57
def k0_off5 (k0_t2 : Fin k0_t2_loop.trips) (c0_i32_48 : BitVec 32) (c0_i32_50 : BitVec 32) : Fin 2 → Nat :=
  let c0_i32_18 : BitVec 32 := 0#32
  let c1_i32_20 : BitVec 32 := 1#32
  let arg9 : BitVec 32 := Scf.iv c0_i32_18 c1_i32_20 k0_t2
  let c8_i32_47 : BitVec 32 := 8#32
  let v54 : BitVec 32 := Scalar.muli arg9 c8_i32_47
  let v55 : BitVec 32 := Scalar.addi v54 c0_i32_48
  let c64_i32_49 : BitVec 32 := 64#32
  let v56 : BitVec 32 := Scalar.muli v55 c64_i32_49
  let v57 : BitVec 32 := Scalar.addi v56 c0_i32_50
  let v58 : BitVec 32 := v57
  let v59 : Index := Scalar.indexCast v58
  let c0_51 : Index := 0#32
  ![v59.toNat, 0]
def k0_off6 (k0_t2 : Fin k0_t2_loop.trips) (c0_i32_48 : BitVec 32) (c0_i32_50 : BitVec 32) : Fin 2 → Nat :=
  let c0_i32_18 : BitVec 32 := 0#32
  let c1_i32_20 : BitVec 32 := 1#32
  let arg9 : BitVec 32 := Scf.iv c0_i32_18 c1_i32_20 k0_t2
  let c8_i32_47 : BitVec 32 := 8#32
  let v54 : BitVec 32 := Scalar.muli arg9 c8_i32_47
  let v55 : BitVec 32 := Scalar.addi v54 c0_i32_48
  let c64_i32_49 : BitVec 32 := 64#32
  let v56 : BitVec 32 := Scalar.muli v55 c64_i32_49
  let v57 : BitVec 32 := Scalar.addi v56 c0_i32_50
  let v58 : BitVec 32 := v57
  let v79 : Index := Scalar.indexCast v58
  let c128_54 : Index := 128#32
  ![v79.toNat, 128]
def k0_mult18 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_55 : BitVec 32 := 8#32
  let v83 : BitVec 32 := Scalar.muli arg9 c8_i32_55
  let c0_i32_56 : BitVec 32 := 0#32
  let v84 : BitVec 32 := Scalar.addi v83 c0_i32_56
  let c64_i32_57 : BitVec 32 := 64#32
  let v85 : BitVec 32 := Scalar.muli v84 c64_i32_57
  let c32_i32 : BitVec 32 := 32#32
  let v86 : BitVec 32 := Scalar.addi v85 c32_i32
  v86
def k0_mult19 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_64 : BitVec 32 := 8#32
  let v113 : BitVec 32 := Scalar.muli arg9 c8_i32_64
  let c1_i32_65 : BitVec 32 := 1#32
  let v114 : BitVec 32 := Scalar.addi v113 c1_i32_65
  let c64_i32_66 : BitVec 32 := 64#32
  let v115 : BitVec 32 := Scalar.muli v114 c64_i32_66
  let c0_i32_67 : BitVec 32 := 0#32
  let v116 : BitVec 32 := Scalar.addi v115 c0_i32_67
  v116
def k0_mult20 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_74 : BitVec 32 := 8#32
  let v142 : BitVec 32 := Scalar.muli arg9 c8_i32_74
  let c1_i32_75 : BitVec 32 := 1#32
  let v143 : BitVec 32 := Scalar.addi v142 c1_i32_75
  let c64_i32_76 : BitVec 32 := 64#32
  let v144 : BitVec 32 := Scalar.muli v143 c64_i32_76
  let c32_i32_77 : BitVec 32 := 32#32
  let v145 : BitVec 32 := Scalar.addi v144 c32_i32_77
  v145
def k0_mult21 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_84 : BitVec 32 := 8#32
  let v172 : BitVec 32 := Scalar.muli arg9 c8_i32_84
  let c2_i32 : BitVec 32 := 2#32
  let v173 : BitVec 32 := Scalar.addi v172 c2_i32
  let c64_i32_85 : BitVec 32 := 64#32
  let v174 : BitVec 32 := Scalar.muli v173 c64_i32_85
  let c0_i32_86 : BitVec 32 := 0#32
  let v175 : BitVec 32 := Scalar.addi v174 c0_i32_86
  v175
def k0_mult22 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_93 : BitVec 32 := 8#32
  let v201 : BitVec 32 := Scalar.muli arg9 c8_i32_93
  let c2_i32_94 : BitVec 32 := 2#32
  let v202 : BitVec 32 := Scalar.addi v201 c2_i32_94
  let c64_i32_95 : BitVec 32 := 64#32
  let v203 : BitVec 32 := Scalar.muli v202 c64_i32_95
  let c32_i32_96 : BitVec 32 := 32#32
  let v204 : BitVec 32 := Scalar.addi v203 c32_i32_96
  v204
def k0_mult23 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_103 : BitVec 32 := 8#32
  let v231 : BitVec 32 := Scalar.muli arg9 c8_i32_103
  let c3_i32 : BitVec 32 := 3#32
  let v232 : BitVec 32 := Scalar.addi v231 c3_i32
  let c64_i32_104 : BitVec 32 := 64#32
  let v233 : BitVec 32 := Scalar.muli v232 c64_i32_104
  let c0_i32_105 : BitVec 32 := 0#32
  let v234 : BitVec 32 := Scalar.addi v233 c0_i32_105
  v234
def k0_mult24 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_112 : BitVec 32 := 8#32
  let v260 : BitVec 32 := Scalar.muli arg9 c8_i32_112
  let c3_i32_113 : BitVec 32 := 3#32
  let v261 : BitVec 32 := Scalar.addi v260 c3_i32_113
  let c64_i32_114 : BitVec 32 := 64#32
  let v262 : BitVec 32 := Scalar.muli v261 c64_i32_114
  let c32_i32_115 : BitVec 32 := 32#32
  let v263 : BitVec 32 := Scalar.addi v262 c32_i32_115
  v263
def k0_mult25 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_122 : BitVec 32 := 8#32
  let v290 : BitVec 32 := Scalar.muli arg9 c8_i32_122
  let c4_i32_123 : BitVec 32 := 4#32
  let v291 : BitVec 32 := Scalar.addi v290 c4_i32_123
  let c64_i32_124 : BitVec 32 := 64#32
  let v292 : BitVec 32 := Scalar.muli v291 c64_i32_124
  let c0_i32_125 : BitVec 32 := 0#32
  let v293 : BitVec 32 := Scalar.addi v292 c0_i32_125
  v293
def k0_mult26 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_132 : BitVec 32 := 8#32
  let v319 : BitVec 32 := Scalar.muli arg9 c8_i32_132
  let c4_i32_133 : BitVec 32 := 4#32
  let v320 : BitVec 32 := Scalar.addi v319 c4_i32_133
  let c64_i32_134 : BitVec 32 := 64#32
  let v321 : BitVec 32 := Scalar.muli v320 c64_i32_134
  let c32_i32_135 : BitVec 32 := 32#32
  let v322 : BitVec 32 := Scalar.addi v321 c32_i32_135
  v322
def k0_mult27 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_142 : BitVec 32 := 8#32
  let v349 : BitVec 32 := Scalar.muli arg9 c8_i32_142
  let c5_i32 : BitVec 32 := 5#32
  let v350 : BitVec 32 := Scalar.addi v349 c5_i32
  let c64_i32_143 : BitVec 32 := 64#32
  let v351 : BitVec 32 := Scalar.muli v350 c64_i32_143
  let c0_i32_144 : BitVec 32 := 0#32
  let v352 : BitVec 32 := Scalar.addi v351 c0_i32_144
  v352
def k0_mult28 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_151 : BitVec 32 := 8#32
  let v378 : BitVec 32 := Scalar.muli arg9 c8_i32_151
  let c5_i32_152 : BitVec 32 := 5#32
  let v379 : BitVec 32 := Scalar.addi v378 c5_i32_152
  let c64_i32_153 : BitVec 32 := 64#32
  let v380 : BitVec 32 := Scalar.muli v379 c64_i32_153
  let c32_i32_154 : BitVec 32 := 32#32
  let v381 : BitVec 32 := Scalar.addi v380 c32_i32_154
  v381
def k0_mult29 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_161 : BitVec 32 := 8#32
  let v408 : BitVec 32 := Scalar.muli arg9 c8_i32_161
  let c6_i32 : BitVec 32 := 6#32
  let v409 : BitVec 32 := Scalar.addi v408 c6_i32
  let c64_i32_162 : BitVec 32 := 64#32
  let v410 : BitVec 32 := Scalar.muli v409 c64_i32_162
  let c0_i32_163 : BitVec 32 := 0#32
  let v411 : BitVec 32 := Scalar.addi v410 c0_i32_163
  v411
def k0_mult30 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_170 : BitVec 32 := 8#32
  let v437 : BitVec 32 := Scalar.muli arg9 c8_i32_170
  let c6_i32_171 : BitVec 32 := 6#32
  let v438 : BitVec 32 := Scalar.addi v437 c6_i32_171
  let c64_i32_172 : BitVec 32 := 64#32
  let v439 : BitVec 32 := Scalar.muli v438 c64_i32_172
  let c32_i32_173 : BitVec 32 := 32#32
  let v440 : BitVec 32 := Scalar.addi v439 c32_i32_173
  v440
def k0_mult31 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_180 : BitVec 32 := 8#32
  let v467 : BitVec 32 := Scalar.muli arg9 c8_i32_180
  let c7_i32 : BitVec 32 := 7#32
  let v468 : BitVec 32 := Scalar.addi v467 c7_i32
  let c64_i32_181 : BitVec 32 := 64#32
  let v469 : BitVec 32 := Scalar.muli v468 c64_i32_181
  let c0_i32_182 : BitVec 32 := 0#32
  let v470 : BitVec 32 := Scalar.addi v469 c0_i32_182
  v470
def k0_mult32 (k0_t2 : Fin k0_t2_loop.trips) : BitVec 32 :=
  let c0_i32_18 : BitVec 32 := 0#32
  let c1_i32_20 : BitVec 32 := 1#32
  let arg9 : BitVec 32 := Scf.iv c0_i32_18 c1_i32_20 k0_t2
  let c8_i32_189 : BitVec 32 := 8#32
  let v496 : BitVec 32 := Scalar.muli arg9 c8_i32_189
  let c7_i32_190 : BitVec 32 := 7#32
  let v497 : BitVec 32 := Scalar.addi v496 c7_i32_190
  let c64_i32_191 : BitVec 32 := 64#32
  let v498 : BitVec 32 := Scalar.muli v497 c64_i32_191
  let c32_i32_192 : BitVec 32 := 32#32
  let v499 : BitVec 32 := Scalar.addi v498 c32_i32_192
  v499
@[reducible] def k0_t3_loop : Scf.Loop 32 :=
  let c0_i32_24 : BitVec 32 := 0#32
  let c8_i32_25 : BitVec 32 := 8#32
  let v33 : BitVec 32 := Scalar.addi c0_i32_24 c8_i32_25
  let c1_i32_26 : BitVec 32 := 1#32
  ⟨c0_i32_24, v33, c1_i32_26⟩
def k0_off7 (k0_t3 : Fin k0_t3_loop.trips) : Fin 2 → Nat :=
  let c0_i32_24 : BitVec 32 := 0#32
  let c1_i32_26 : BitVec 32 := 1#32
  let arg9 : BitVec 32 := Scf.iv c0_i32_24 c1_i32_26 k0_t3
  let c8_i32_46 : BitVec 32 := 8#32
  let v49 : BitVec 32 := Scalar.muli arg9 c8_i32_46
  let v50 : Index := Scalar.indexCast v49
  let c256 : Index := 256#32
  ![v50.toNat, 256]
def k0_mult33 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_47 : BitVec 32 := 8#32
  let v54 : BitVec 32 := Scalar.muli arg9 c8_i32_47
  let c0_i32_48 : BitVec 32 := 0#32
  let v55 : BitVec 32 := Scalar.addi v54 c0_i32_48
  let c64_i32_49 : BitVec 32 := 64#32
  let v56 : BitVec 32 := Scalar.muli v55 c64_i32_49
  let c0_i32_50 : BitVec 32 := 0#32
  let v57 : BitVec 32 := Scalar.addi v56 c0_i32_50
  v57
def k0_off8 (k0_t3 : Fin k0_t3_loop.trips) (c0_i32_48 : BitVec 32) (c0_i32_50 : BitVec 32) : Fin 2 → Nat :=
  let c0_i32_24 : BitVec 32 := 0#32
  let c1_i32_26 : BitVec 32 := 1#32
  let arg9 : BitVec 32 := Scf.iv c0_i32_24 c1_i32_26 k0_t3
  let c8_i32_47 : BitVec 32 := 8#32
  let v54 : BitVec 32 := Scalar.muli arg9 c8_i32_47
  let v55 : BitVec 32 := Scalar.addi v54 c0_i32_48
  let c64_i32_49 : BitVec 32 := 64#32
  let v56 : BitVec 32 := Scalar.muli v55 c64_i32_49
  let v57 : BitVec 32 := Scalar.addi v56 c0_i32_50
  let v58 : BitVec 32 := v57
  let v59 : Index := Scalar.indexCast v58
  let c128 : Index := 128#32
  ![v59.toNat, 128]
def k0_off9 (k0_t3 : Fin k0_t3_loop.trips) (c0_i32_48 : BitVec 32) (c0_i32_50 : BitVec 32) : Fin 2 → Nat :=
  let c0_i32_24 : BitVec 32 := 0#32
  let c1_i32_26 : BitVec 32 := 1#32
  let arg9 : BitVec 32 := Scf.iv c0_i32_24 c1_i32_26 k0_t3
  let c8_i32_47 : BitVec 32 := 8#32
  let v54 : BitVec 32 := Scalar.muli arg9 c8_i32_47
  let v55 : BitVec 32 := Scalar.addi v54 c0_i32_48
  let c64_i32_49 : BitVec 32 := 64#32
  let v56 : BitVec 32 := Scalar.muli v55 c64_i32_49
  let v57 : BitVec 32 := Scalar.addi v56 c0_i32_50
  let v58 : BitVec 32 := v57
  let v79 : Index := Scalar.indexCast v58
  let c256_53 : Index := 256#32
  ![v79.toNat, 256]
def k0_mult34 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_54 : BitVec 32 := 8#32
  let v83 : BitVec 32 := Scalar.muli arg9 c8_i32_54
  let c0_i32_55 : BitVec 32 := 0#32
  let v84 : BitVec 32 := Scalar.addi v83 c0_i32_55
  let c64_i32_56 : BitVec 32 := 64#32
  let v85 : BitVec 32 := Scalar.muli v84 c64_i32_56
  let c32_i32 : BitVec 32 := 32#32
  let v86 : BitVec 32 := Scalar.addi v85 c32_i32
  v86
def k0_mult35 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_63 : BitVec 32 := 8#32
  let v113 : BitVec 32 := Scalar.muli arg9 c8_i32_63
  let c1_i32_64 : BitVec 32 := 1#32
  let v114 : BitVec 32 := Scalar.addi v113 c1_i32_64
  let c64_i32_65 : BitVec 32 := 64#32
  let v115 : BitVec 32 := Scalar.muli v114 c64_i32_65
  let c0_i32_66 : BitVec 32 := 0#32
  let v116 : BitVec 32 := Scalar.addi v115 c0_i32_66
  v116
def k0_mult36 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_73 : BitVec 32 := 8#32
  let v142 : BitVec 32 := Scalar.muli arg9 c8_i32_73
  let c1_i32_74 : BitVec 32 := 1#32
  let v143 : BitVec 32 := Scalar.addi v142 c1_i32_74
  let c64_i32_75 : BitVec 32 := 64#32
  let v144 : BitVec 32 := Scalar.muli v143 c64_i32_75
  let c32_i32_76 : BitVec 32 := 32#32
  let v145 : BitVec 32 := Scalar.addi v144 c32_i32_76
  v145
def k0_mult37 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_83 : BitVec 32 := 8#32
  let v172 : BitVec 32 := Scalar.muli arg9 c8_i32_83
  let c2_i32 : BitVec 32 := 2#32
  let v173 : BitVec 32 := Scalar.addi v172 c2_i32
  let c64_i32_84 : BitVec 32 := 64#32
  let v174 : BitVec 32 := Scalar.muli v173 c64_i32_84
  let c0_i32_85 : BitVec 32 := 0#32
  let v175 : BitVec 32 := Scalar.addi v174 c0_i32_85
  v175
def k0_mult38 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_92 : BitVec 32 := 8#32
  let v201 : BitVec 32 := Scalar.muli arg9 c8_i32_92
  let c2_i32_93 : BitVec 32 := 2#32
  let v202 : BitVec 32 := Scalar.addi v201 c2_i32_93
  let c64_i32_94 : BitVec 32 := 64#32
  let v203 : BitVec 32 := Scalar.muli v202 c64_i32_94
  let c32_i32_95 : BitVec 32 := 32#32
  let v204 : BitVec 32 := Scalar.addi v203 c32_i32_95
  v204
def k0_mult39 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_102 : BitVec 32 := 8#32
  let v231 : BitVec 32 := Scalar.muli arg9 c8_i32_102
  let c3_i32 : BitVec 32 := 3#32
  let v232 : BitVec 32 := Scalar.addi v231 c3_i32
  let c64_i32_103 : BitVec 32 := 64#32
  let v233 : BitVec 32 := Scalar.muli v232 c64_i32_103
  let c0_i32_104 : BitVec 32 := 0#32
  let v234 : BitVec 32 := Scalar.addi v233 c0_i32_104
  v234
def k0_mult40 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_111 : BitVec 32 := 8#32
  let v260 : BitVec 32 := Scalar.muli arg9 c8_i32_111
  let c3_i32_112 : BitVec 32 := 3#32
  let v261 : BitVec 32 := Scalar.addi v260 c3_i32_112
  let c64_i32_113 : BitVec 32 := 64#32
  let v262 : BitVec 32 := Scalar.muli v261 c64_i32_113
  let c32_i32_114 : BitVec 32 := 32#32
  let v263 : BitVec 32 := Scalar.addi v262 c32_i32_114
  v263
def k0_mult41 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_121 : BitVec 32 := 8#32
  let v290 : BitVec 32 := Scalar.muli arg9 c8_i32_121
  let c4_i32_122 : BitVec 32 := 4#32
  let v291 : BitVec 32 := Scalar.addi v290 c4_i32_122
  let c64_i32_123 : BitVec 32 := 64#32
  let v292 : BitVec 32 := Scalar.muli v291 c64_i32_123
  let c0_i32_124 : BitVec 32 := 0#32
  let v293 : BitVec 32 := Scalar.addi v292 c0_i32_124
  v293
def k0_mult42 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_131 : BitVec 32 := 8#32
  let v319 : BitVec 32 := Scalar.muli arg9 c8_i32_131
  let c4_i32_132 : BitVec 32 := 4#32
  let v320 : BitVec 32 := Scalar.addi v319 c4_i32_132
  let c64_i32_133 : BitVec 32 := 64#32
  let v321 : BitVec 32 := Scalar.muli v320 c64_i32_133
  let c32_i32_134 : BitVec 32 := 32#32
  let v322 : BitVec 32 := Scalar.addi v321 c32_i32_134
  v322
def k0_mult43 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_141 : BitVec 32 := 8#32
  let v349 : BitVec 32 := Scalar.muli arg9 c8_i32_141
  let c5_i32 : BitVec 32 := 5#32
  let v350 : BitVec 32 := Scalar.addi v349 c5_i32
  let c64_i32_142 : BitVec 32 := 64#32
  let v351 : BitVec 32 := Scalar.muli v350 c64_i32_142
  let c0_i32_143 : BitVec 32 := 0#32
  let v352 : BitVec 32 := Scalar.addi v351 c0_i32_143
  v352
def k0_mult44 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_150 : BitVec 32 := 8#32
  let v378 : BitVec 32 := Scalar.muli arg9 c8_i32_150
  let c5_i32_151 : BitVec 32 := 5#32
  let v379 : BitVec 32 := Scalar.addi v378 c5_i32_151
  let c64_i32_152 : BitVec 32 := 64#32
  let v380 : BitVec 32 := Scalar.muli v379 c64_i32_152
  let c32_i32_153 : BitVec 32 := 32#32
  let v381 : BitVec 32 := Scalar.addi v380 c32_i32_153
  v381
def k0_mult45 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_160 : BitVec 32 := 8#32
  let v408 : BitVec 32 := Scalar.muli arg9 c8_i32_160
  let c6_i32 : BitVec 32 := 6#32
  let v409 : BitVec 32 := Scalar.addi v408 c6_i32
  let c64_i32_161 : BitVec 32 := 64#32
  let v410 : BitVec 32 := Scalar.muli v409 c64_i32_161
  let c0_i32_162 : BitVec 32 := 0#32
  let v411 : BitVec 32 := Scalar.addi v410 c0_i32_162
  v411
def k0_mult46 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_169 : BitVec 32 := 8#32
  let v437 : BitVec 32 := Scalar.muli arg9 c8_i32_169
  let c6_i32_170 : BitVec 32 := 6#32
  let v438 : BitVec 32 := Scalar.addi v437 c6_i32_170
  let c64_i32_171 : BitVec 32 := 64#32
  let v439 : BitVec 32 := Scalar.muli v438 c64_i32_171
  let c32_i32_172 : BitVec 32 := 32#32
  let v440 : BitVec 32 := Scalar.addi v439 c32_i32_172
  v440
def k0_mult47 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_179 : BitVec 32 := 8#32
  let v467 : BitVec 32 := Scalar.muli arg9 c8_i32_179
  let c7_i32 : BitVec 32 := 7#32
  let v468 : BitVec 32 := Scalar.addi v467 c7_i32
  let c64_i32_180 : BitVec 32 := 64#32
  let v469 : BitVec 32 := Scalar.muli v468 c64_i32_180
  let c0_i32_181 : BitVec 32 := 0#32
  let v470 : BitVec 32 := Scalar.addi v469 c0_i32_181
  v470
def k0_mult48 (k0_t3 : Fin k0_t3_loop.trips) : BitVec 32 :=
  let c0_i32_24 : BitVec 32 := 0#32
  let c1_i32_26 : BitVec 32 := 1#32
  let arg9 : BitVec 32 := Scf.iv c0_i32_24 c1_i32_26 k0_t3
  let c8_i32_188 : BitVec 32 := 8#32
  let v496 : BitVec 32 := Scalar.muli arg9 c8_i32_188
  let c7_i32_189 : BitVec 32 := 7#32
  let v497 : BitVec 32 := Scalar.addi v496 c7_i32_189
  let c64_i32_190 : BitVec 32 := 64#32
  let v498 : BitVec 32 := Scalar.muli v497 c64_i32_190
  let c32_i32_191 : BitVec 32 := 32#32
  let v499 : BitVec 32 := Scalar.addi v498 c32_i32_191
  v499
@[reducible] def k0_t4_loop : Scf.Loop 32 :=
  let c0_i32_30 : BitVec 32 := 0#32
  let c8_i32_31 : BitVec 32 := 8#32
  let v38 : BitVec 32 := Scalar.addi c0_i32_30 c8_i32_31
  let c1_i32_32 : BitVec 32 := 1#32
  ⟨c0_i32_30, v38, c1_i32_32⟩
def k0_off10 (k0_t4 : Fin k0_t4_loop.trips) : Fin 2 → Nat :=
  let c0_i32_30 : BitVec 32 := 0#32
  let c1_i32_32 : BitVec 32 := 1#32
  let arg9 : BitVec 32 := Scf.iv c0_i32_30 c1_i32_32 k0_t4
  let c8_i32_46 : BitVec 32 := 8#32
  let v49 : BitVec 32 := Scalar.muli arg9 c8_i32_46
  let v50 : Index := Scalar.indexCast v49
  let c384 : Index := 384#32
  ![v50.toNat, 384]
def k0_mult49 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_47 : BitVec 32 := 8#32
  let v54 : BitVec 32 := Scalar.muli arg9 c8_i32_47
  let c0_i32_48 : BitVec 32 := 0#32
  let v55 : BitVec 32 := Scalar.addi v54 c0_i32_48
  let c64_i32_49 : BitVec 32 := 64#32
  let v56 : BitVec 32 := Scalar.muli v55 c64_i32_49
  let c0_i32_50 : BitVec 32 := 0#32
  let v57 : BitVec 32 := Scalar.addi v56 c0_i32_50
  v57
def k0_off11 (k0_t4 : Fin k0_t4_loop.trips) (c0_i32_48 : BitVec 32) (c0_i32_50 : BitVec 32) : Fin 2 → Nat :=
  let c0_i32_30 : BitVec 32 := 0#32
  let c1_i32_32 : BitVec 32 := 1#32
  let arg9 : BitVec 32 := Scf.iv c0_i32_30 c1_i32_32 k0_t4
  let c8_i32_47 : BitVec 32 := 8#32
  let v54 : BitVec 32 := Scalar.muli arg9 c8_i32_47
  let v55 : BitVec 32 := Scalar.addi v54 c0_i32_48
  let c64_i32_49 : BitVec 32 := 64#32
  let v56 : BitVec 32 := Scalar.muli v55 c64_i32_49
  let v57 : BitVec 32 := Scalar.addi v56 c0_i32_50
  let v58 : BitVec 32 := v57
  let v59 : Index := Scalar.indexCast v58
  let c128 : Index := 128#32
  ![v59.toNat, 128]
def k0_off12 (k0_t4 : Fin k0_t4_loop.trips) (c0_i32_48 : BitVec 32) (c0_i32_50 : BitVec 32) : Fin 2 → Nat :=
  let c0_i32_30 : BitVec 32 := 0#32
  let c1_i32_32 : BitVec 32 := 1#32
  let arg9 : BitVec 32 := Scf.iv c0_i32_30 c1_i32_32 k0_t4
  let c8_i32_47 : BitVec 32 := 8#32
  let v54 : BitVec 32 := Scalar.muli arg9 c8_i32_47
  let v55 : BitVec 32 := Scalar.addi v54 c0_i32_48
  let c64_i32_49 : BitVec 32 := 64#32
  let v56 : BitVec 32 := Scalar.muli v55 c64_i32_49
  let v57 : BitVec 32 := Scalar.addi v56 c0_i32_50
  let v58 : BitVec 32 := v57
  let v79 : Index := Scalar.indexCast v58
  let c384_53 : Index := 384#32
  ![v79.toNat, 384]
def k0_mult50 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_54 : BitVec 32 := 8#32
  let v83 : BitVec 32 := Scalar.muli arg9 c8_i32_54
  let c0_i32_55 : BitVec 32 := 0#32
  let v84 : BitVec 32 := Scalar.addi v83 c0_i32_55
  let c64_i32_56 : BitVec 32 := 64#32
  let v85 : BitVec 32 := Scalar.muli v84 c64_i32_56
  let c32_i32 : BitVec 32 := 32#32
  let v86 : BitVec 32 := Scalar.addi v85 c32_i32
  v86
def k0_mult51 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_63 : BitVec 32 := 8#32
  let v113 : BitVec 32 := Scalar.muli arg9 c8_i32_63
  let c1_i32_64 : BitVec 32 := 1#32
  let v114 : BitVec 32 := Scalar.addi v113 c1_i32_64
  let c64_i32_65 : BitVec 32 := 64#32
  let v115 : BitVec 32 := Scalar.muli v114 c64_i32_65
  let c0_i32_66 : BitVec 32 := 0#32
  let v116 : BitVec 32 := Scalar.addi v115 c0_i32_66
  v116
def k0_mult52 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_73 : BitVec 32 := 8#32
  let v142 : BitVec 32 := Scalar.muli arg9 c8_i32_73
  let c1_i32_74 : BitVec 32 := 1#32
  let v143 : BitVec 32 := Scalar.addi v142 c1_i32_74
  let c64_i32_75 : BitVec 32 := 64#32
  let v144 : BitVec 32 := Scalar.muli v143 c64_i32_75
  let c32_i32_76 : BitVec 32 := 32#32
  let v145 : BitVec 32 := Scalar.addi v144 c32_i32_76
  v145
def k0_mult53 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_83 : BitVec 32 := 8#32
  let v172 : BitVec 32 := Scalar.muli arg9 c8_i32_83
  let c2_i32 : BitVec 32 := 2#32
  let v173 : BitVec 32 := Scalar.addi v172 c2_i32
  let c64_i32_84 : BitVec 32 := 64#32
  let v174 : BitVec 32 := Scalar.muli v173 c64_i32_84
  let c0_i32_85 : BitVec 32 := 0#32
  let v175 : BitVec 32 := Scalar.addi v174 c0_i32_85
  v175
def k0_mult54 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_92 : BitVec 32 := 8#32
  let v201 : BitVec 32 := Scalar.muli arg9 c8_i32_92
  let c2_i32_93 : BitVec 32 := 2#32
  let v202 : BitVec 32 := Scalar.addi v201 c2_i32_93
  let c64_i32_94 : BitVec 32 := 64#32
  let v203 : BitVec 32 := Scalar.muli v202 c64_i32_94
  let c32_i32_95 : BitVec 32 := 32#32
  let v204 : BitVec 32 := Scalar.addi v203 c32_i32_95
  v204
def k0_mult55 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_102 : BitVec 32 := 8#32
  let v231 : BitVec 32 := Scalar.muli arg9 c8_i32_102
  let c3_i32 : BitVec 32 := 3#32
  let v232 : BitVec 32 := Scalar.addi v231 c3_i32
  let c64_i32_103 : BitVec 32 := 64#32
  let v233 : BitVec 32 := Scalar.muli v232 c64_i32_103
  let c0_i32_104 : BitVec 32 := 0#32
  let v234 : BitVec 32 := Scalar.addi v233 c0_i32_104
  v234
def k0_mult56 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_111 : BitVec 32 := 8#32
  let v260 : BitVec 32 := Scalar.muli arg9 c8_i32_111
  let c3_i32_112 : BitVec 32 := 3#32
  let v261 : BitVec 32 := Scalar.addi v260 c3_i32_112
  let c64_i32_113 : BitVec 32 := 64#32
  let v262 : BitVec 32 := Scalar.muli v261 c64_i32_113
  let c32_i32_114 : BitVec 32 := 32#32
  let v263 : BitVec 32 := Scalar.addi v262 c32_i32_114
  v263
def k0_mult57 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_121 : BitVec 32 := 8#32
  let v290 : BitVec 32 := Scalar.muli arg9 c8_i32_121
  let c4_i32_122 : BitVec 32 := 4#32
  let v291 : BitVec 32 := Scalar.addi v290 c4_i32_122
  let c64_i32_123 : BitVec 32 := 64#32
  let v292 : BitVec 32 := Scalar.muli v291 c64_i32_123
  let c0_i32_124 : BitVec 32 := 0#32
  let v293 : BitVec 32 := Scalar.addi v292 c0_i32_124
  v293
def k0_mult58 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_131 : BitVec 32 := 8#32
  let v319 : BitVec 32 := Scalar.muli arg9 c8_i32_131
  let c4_i32_132 : BitVec 32 := 4#32
  let v320 : BitVec 32 := Scalar.addi v319 c4_i32_132
  let c64_i32_133 : BitVec 32 := 64#32
  let v321 : BitVec 32 := Scalar.muli v320 c64_i32_133
  let c32_i32_134 : BitVec 32 := 32#32
  let v322 : BitVec 32 := Scalar.addi v321 c32_i32_134
  v322
def k0_mult59 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_141 : BitVec 32 := 8#32
  let v349 : BitVec 32 := Scalar.muli arg9 c8_i32_141
  let c5_i32 : BitVec 32 := 5#32
  let v350 : BitVec 32 := Scalar.addi v349 c5_i32
  let c64_i32_142 : BitVec 32 := 64#32
  let v351 : BitVec 32 := Scalar.muli v350 c64_i32_142
  let c0_i32_143 : BitVec 32 := 0#32
  let v352 : BitVec 32 := Scalar.addi v351 c0_i32_143
  v352
def k0_mult60 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_150 : BitVec 32 := 8#32
  let v378 : BitVec 32 := Scalar.muli arg9 c8_i32_150
  let c5_i32_151 : BitVec 32 := 5#32
  let v379 : BitVec 32 := Scalar.addi v378 c5_i32_151
  let c64_i32_152 : BitVec 32 := 64#32
  let v380 : BitVec 32 := Scalar.muli v379 c64_i32_152
  let c32_i32_153 : BitVec 32 := 32#32
  let v381 : BitVec 32 := Scalar.addi v380 c32_i32_153
  v381
def k0_mult61 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_160 : BitVec 32 := 8#32
  let v408 : BitVec 32 := Scalar.muli arg9 c8_i32_160
  let c6_i32 : BitVec 32 := 6#32
  let v409 : BitVec 32 := Scalar.addi v408 c6_i32
  let c64_i32_161 : BitVec 32 := 64#32
  let v410 : BitVec 32 := Scalar.muli v409 c64_i32_161
  let c0_i32_162 : BitVec 32 := 0#32
  let v411 : BitVec 32 := Scalar.addi v410 c0_i32_162
  v411
def k0_mult62 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_169 : BitVec 32 := 8#32
  let v437 : BitVec 32 := Scalar.muli arg9 c8_i32_169
  let c6_i32_170 : BitVec 32 := 6#32
  let v438 : BitVec 32 := Scalar.addi v437 c6_i32_170
  let c64_i32_171 : BitVec 32 := 64#32
  let v439 : BitVec 32 := Scalar.muli v438 c64_i32_171
  let c32_i32_172 : BitVec 32 := 32#32
  let v440 : BitVec 32 := Scalar.addi v439 c32_i32_172
  v440
def k0_mult63 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_179 : BitVec 32 := 8#32
  let v467 : BitVec 32 := Scalar.muli arg9 c8_i32_179
  let c7_i32 : BitVec 32 := 7#32
  let v468 : BitVec 32 := Scalar.addi v467 c7_i32
  let c64_i32_180 : BitVec 32 := 64#32
  let v469 : BitVec 32 := Scalar.muli v468 c64_i32_180
  let c0_i32_181 : BitVec 32 := 0#32
  let v470 : BitVec 32 := Scalar.addi v469 c0_i32_181
  v470
def k0_mult64 (k0_t4 : Fin k0_t4_loop.trips) : BitVec 32 :=
  let c0_i32_30 : BitVec 32 := 0#32
  let c1_i32_32 : BitVec 32 := 1#32
  let arg9 : BitVec 32 := Scf.iv c0_i32_30 c1_i32_32 k0_t4
  let c8_i32_188 : BitVec 32 := 8#32
  let v496 : BitVec 32 := Scalar.muli arg9 c8_i32_188
  let c7_i32_189 : BitVec 32 := 7#32
  let v497 : BitVec 32 := Scalar.addi v496 c7_i32_189
  let c64_i32_190 : BitVec 32 := 64#32
  let v498 : BitVec 32 := Scalar.muli v497 c64_i32_190
  let c32_i32_191 : BitVec 32 := 32#32
  let v499 : BitVec 32 := Scalar.addi v498 c32_i32_191
  v499
@[reducible] def k0_t5_loop : Scf.Loop 32 :=
  let c0_i32_36 : BitVec 32 := 0#32
  let c8_i32_37 : BitVec 32 := 8#32
  let v43 : BitVec 32 := Scalar.addi c0_i32_36 c8_i32_37
  let c1_i32_38 : BitVec 32 := 1#32
  ⟨c0_i32_36, v43, c1_i32_38⟩
def k0_off13 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let c8_i32_46 : BitVec 32 := 8#32
  let v49 : BitVec 32 := Scalar.muli arg9 c8_i32_46
  let v50 : Index := Scalar.indexCast v49
  let c512 : Index := 512#32
  ![v50.toNat, 512]
def k0_mult65 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_47 : BitVec 32 := 8#32
  let v54 : BitVec 32 := Scalar.muli arg9 c8_i32_47
  let c0_i32_48 : BitVec 32 := 0#32
  let v55 : BitVec 32 := Scalar.addi v54 c0_i32_48
  let c64_i32_49 : BitVec 32 := 64#32
  let v56 : BitVec 32 := Scalar.muli v55 c64_i32_49
  let c0_i32_50 : BitVec 32 := 0#32
  let v57 : BitVec 32 := Scalar.addi v56 c0_i32_50
  v57
def k0_off14 (k0_t5 : Fin k0_t5_loop.trips) (c0_i32_48 : BitVec 32) (c0_i32_50 : BitVec 32) : Fin 2 → Nat :=
  let c0_i32_36 : BitVec 32 := 0#32
  let c1_i32_38 : BitVec 32 := 1#32
  let arg9 : BitVec 32 := Scf.iv c0_i32_36 c1_i32_38 k0_t5
  let c8_i32_47 : BitVec 32 := 8#32
  let v54 : BitVec 32 := Scalar.muli arg9 c8_i32_47
  let v55 : BitVec 32 := Scalar.addi v54 c0_i32_48
  let c64_i32_49 : BitVec 32 := 64#32
  let v56 : BitVec 32 := Scalar.muli v55 c64_i32_49
  let v57 : BitVec 32 := Scalar.addi v56 c0_i32_50
  let v58 : BitVec 32 := v57
  let v59 : Index := Scalar.indexCast v58
  let c256 : Index := 256#32
  ![v59.toNat, 256]
def k0_off15 (k0_t5 : Fin k0_t5_loop.trips) (c0_i32_48 : BitVec 32) (c0_i32_50 : BitVec 32) : Fin 2 → Nat :=
  let c0_i32_36 : BitVec 32 := 0#32
  let c1_i32_38 : BitVec 32 := 1#32
  let arg9 : BitVec 32 := Scf.iv c0_i32_36 c1_i32_38 k0_t5
  let c8_i32_47 : BitVec 32 := 8#32
  let v54 : BitVec 32 := Scalar.muli arg9 c8_i32_47
  let v55 : BitVec 32 := Scalar.addi v54 c0_i32_48
  let c64_i32_49 : BitVec 32 := 64#32
  let v56 : BitVec 32 := Scalar.muli v55 c64_i32_49
  let v57 : BitVec 32 := Scalar.addi v56 c0_i32_50
  let v58 : BitVec 32 := v57
  let v79 : Index := Scalar.indexCast v58
  let c512_53 : Index := 512#32
  ![v79.toNat, 512]
def k0_mult66 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_54 : BitVec 32 := 8#32
  let v83 : BitVec 32 := Scalar.muli arg9 c8_i32_54
  let c0_i32_55 : BitVec 32 := 0#32
  let v84 : BitVec 32 := Scalar.addi v83 c0_i32_55
  let c64_i32_56 : BitVec 32 := 64#32
  let v85 : BitVec 32 := Scalar.muli v84 c64_i32_56
  let c32_i32 : BitVec 32 := 32#32
  let v86 : BitVec 32 := Scalar.addi v85 c32_i32
  v86
def k0_mult67 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_63 : BitVec 32 := 8#32
  let v113 : BitVec 32 := Scalar.muli arg9 c8_i32_63
  let c1_i32_64 : BitVec 32 := 1#32
  let v114 : BitVec 32 := Scalar.addi v113 c1_i32_64
  let c64_i32_65 : BitVec 32 := 64#32
  let v115 : BitVec 32 := Scalar.muli v114 c64_i32_65
  let c0_i32_66 : BitVec 32 := 0#32
  let v116 : BitVec 32 := Scalar.addi v115 c0_i32_66
  v116
def k0_mult68 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_73 : BitVec 32 := 8#32
  let v142 : BitVec 32 := Scalar.muli arg9 c8_i32_73
  let c1_i32_74 : BitVec 32 := 1#32
  let v143 : BitVec 32 := Scalar.addi v142 c1_i32_74
  let c64_i32_75 : BitVec 32 := 64#32
  let v144 : BitVec 32 := Scalar.muli v143 c64_i32_75
  let c32_i32_76 : BitVec 32 := 32#32
  let v145 : BitVec 32 := Scalar.addi v144 c32_i32_76
  v145
def k0_mult69 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_83 : BitVec 32 := 8#32
  let v172 : BitVec 32 := Scalar.muli arg9 c8_i32_83
  let c2_i32 : BitVec 32 := 2#32
  let v173 : BitVec 32 := Scalar.addi v172 c2_i32
  let c64_i32_84 : BitVec 32 := 64#32
  let v174 : BitVec 32 := Scalar.muli v173 c64_i32_84
  let c0_i32_85 : BitVec 32 := 0#32
  let v175 : BitVec 32 := Scalar.addi v174 c0_i32_85
  v175
def k0_mult70 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_92 : BitVec 32 := 8#32
  let v201 : BitVec 32 := Scalar.muli arg9 c8_i32_92
  let c2_i32_93 : BitVec 32 := 2#32
  let v202 : BitVec 32 := Scalar.addi v201 c2_i32_93
  let c64_i32_94 : BitVec 32 := 64#32
  let v203 : BitVec 32 := Scalar.muli v202 c64_i32_94
  let c32_i32_95 : BitVec 32 := 32#32
  let v204 : BitVec 32 := Scalar.addi v203 c32_i32_95
  v204
def k0_mult71 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_102 : BitVec 32 := 8#32
  let v231 : BitVec 32 := Scalar.muli arg9 c8_i32_102
  let c3_i32 : BitVec 32 := 3#32
  let v232 : BitVec 32 := Scalar.addi v231 c3_i32
  let c64_i32_103 : BitVec 32 := 64#32
  let v233 : BitVec 32 := Scalar.muli v232 c64_i32_103
  let c0_i32_104 : BitVec 32 := 0#32
  let v234 : BitVec 32 := Scalar.addi v233 c0_i32_104
  v234
def k0_mult72 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_111 : BitVec 32 := 8#32
  let v260 : BitVec 32 := Scalar.muli arg9 c8_i32_111
  let c3_i32_112 : BitVec 32 := 3#32
  let v261 : BitVec 32 := Scalar.addi v260 c3_i32_112
  let c64_i32_113 : BitVec 32 := 64#32
  let v262 : BitVec 32 := Scalar.muli v261 c64_i32_113
  let c32_i32_114 : BitVec 32 := 32#32
  let v263 : BitVec 32 := Scalar.addi v262 c32_i32_114
  v263
def k0_mult73 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_121 : BitVec 32 := 8#32
  let v290 : BitVec 32 := Scalar.muli arg9 c8_i32_121
  let c4_i32_122 : BitVec 32 := 4#32
  let v291 : BitVec 32 := Scalar.addi v290 c4_i32_122
  let c64_i32_123 : BitVec 32 := 64#32
  let v292 : BitVec 32 := Scalar.muli v291 c64_i32_123
  let c0_i32_124 : BitVec 32 := 0#32
  let v293 : BitVec 32 := Scalar.addi v292 c0_i32_124
  v293
def k0_mult74 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_131 : BitVec 32 := 8#32
  let v319 : BitVec 32 := Scalar.muli arg9 c8_i32_131
  let c4_i32_132 : BitVec 32 := 4#32
  let v320 : BitVec 32 := Scalar.addi v319 c4_i32_132
  let c64_i32_133 : BitVec 32 := 64#32
  let v321 : BitVec 32 := Scalar.muli v320 c64_i32_133
  let c32_i32_134 : BitVec 32 := 32#32
  let v322 : BitVec 32 := Scalar.addi v321 c32_i32_134
  v322
def k0_mult75 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_141 : BitVec 32 := 8#32
  let v349 : BitVec 32 := Scalar.muli arg9 c8_i32_141
  let c5_i32 : BitVec 32 := 5#32
  let v350 : BitVec 32 := Scalar.addi v349 c5_i32
  let c64_i32_142 : BitVec 32 := 64#32
  let v351 : BitVec 32 := Scalar.muli v350 c64_i32_142
  let c0_i32_143 : BitVec 32 := 0#32
  let v352 : BitVec 32 := Scalar.addi v351 c0_i32_143
  v352
def k0_mult76 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_150 : BitVec 32 := 8#32
  let v378 : BitVec 32 := Scalar.muli arg9 c8_i32_150
  let c5_i32_151 : BitVec 32 := 5#32
  let v379 : BitVec 32 := Scalar.addi v378 c5_i32_151
  let c64_i32_152 : BitVec 32 := 64#32
  let v380 : BitVec 32 := Scalar.muli v379 c64_i32_152
  let c32_i32_153 : BitVec 32 := 32#32
  let v381 : BitVec 32 := Scalar.addi v380 c32_i32_153
  v381
def k0_mult77 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_160 : BitVec 32 := 8#32
  let v408 : BitVec 32 := Scalar.muli arg9 c8_i32_160
  let c6_i32 : BitVec 32 := 6#32
  let v409 : BitVec 32 := Scalar.addi v408 c6_i32
  let c64_i32_161 : BitVec 32 := 64#32
  let v410 : BitVec 32 := Scalar.muli v409 c64_i32_161
  let c0_i32_162 : BitVec 32 := 0#32
  let v411 : BitVec 32 := Scalar.addi v410 c0_i32_162
  v411
def k0_mult78 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_169 : BitVec 32 := 8#32
  let v437 : BitVec 32 := Scalar.muli arg9 c8_i32_169
  let c6_i32_170 : BitVec 32 := 6#32
  let v438 : BitVec 32 := Scalar.addi v437 c6_i32_170
  let c64_i32_171 : BitVec 32 := 64#32
  let v439 : BitVec 32 := Scalar.muli v438 c64_i32_171
  let c32_i32_172 : BitVec 32 := 32#32
  let v440 : BitVec 32 := Scalar.addi v439 c32_i32_172
  v440
def k0_mult79 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_179 : BitVec 32 := 8#32
  let v467 : BitVec 32 := Scalar.muli arg9 c8_i32_179
  let c7_i32 : BitVec 32 := 7#32
  let v468 : BitVec 32 := Scalar.addi v467 c7_i32
  let c64_i32_180 : BitVec 32 := 64#32
  let v469 : BitVec 32 := Scalar.muli v468 c64_i32_180
  let c0_i32_181 : BitVec 32 := 0#32
  let v470 : BitVec 32 := Scalar.addi v469 c0_i32_181
  v470
def k0_mult80 (k0_t5 : Fin k0_t5_loop.trips) : BitVec 32 :=
  let c0_i32_36 : BitVec 32 := 0#32
  let c1_i32_38 : BitVec 32 := 1#32
  let arg9 : BitVec 32 := Scf.iv c0_i32_36 c1_i32_38 k0_t5
  let c8_i32_188 : BitVec 32 := 8#32
  let v496 : BitVec 32 := Scalar.muli arg9 c8_i32_188
  let c7_i32_189 : BitVec 32 := 7#32
  let v497 : BitVec 32 := Scalar.addi v496 c7_i32_189
  let c64_i32_190 : BitVec 32 := 64#32
  let v498 : BitVec 32 := Scalar.muli v497 c64_i32_190
  let c32_i32_191 : BitVec 32 := 32#32
  let v499 : BitVec 32 := Scalar.addi v498 c32_i32_191
  v499
@[reducible] def k0_t6_loop : Scf.Loop 32 :=
  let c0_i32_42 : BitVec 32 := 0#32
  let c8_i32_43 : BitVec 32 := 8#32
  let v48 : BitVec 32 := Scalar.addi c0_i32_42 c8_i32_43
  let c1_i32_44 : BitVec 32 := 1#32
  ⟨c0_i32_42, v48, c1_i32_44⟩
def k0_off16 (k0_t6 : Fin k0_t6_loop.trips) : Fin 2 → Nat :=
  let c0_i32_42 : BitVec 32 := 0#32
  let c1_i32_44 : BitVec 32 := 1#32
  let arg9 : BitVec 32 := Scf.iv c0_i32_42 c1_i32_44 k0_t6
  let c8_i32_46 : BitVec 32 := 8#32
  let v49 : BitVec 32 := Scalar.muli arg9 c8_i32_46
  let v50 : Index := Scalar.indexCast v49
  let c640 : Index := 640#32
  ![v50.toNat, 640]
def k0_mult81 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_47 : BitVec 32 := 8#32
  let v54 : BitVec 32 := Scalar.muli arg9 c8_i32_47
  let c0_i32_48 : BitVec 32 := 0#32
  let v55 : BitVec 32 := Scalar.addi v54 c0_i32_48
  let c64_i32_49 : BitVec 32 := 64#32
  let v56 : BitVec 32 := Scalar.muli v55 c64_i32_49
  let c0_i32_50 : BitVec 32 := 0#32
  let v57 : BitVec 32 := Scalar.addi v56 c0_i32_50
  v57
def k0_off17 (k0_t6 : Fin k0_t6_loop.trips) (c0_i32_48 : BitVec 32) (c0_i32_50 : BitVec 32) : Fin 2 → Nat :=
  let c0_i32_42 : BitVec 32 := 0#32
  let c1_i32_44 : BitVec 32 := 1#32
  let arg9 : BitVec 32 := Scf.iv c0_i32_42 c1_i32_44 k0_t6
  let c8_i32_47 : BitVec 32 := 8#32
  let v54 : BitVec 32 := Scalar.muli arg9 c8_i32_47
  let v55 : BitVec 32 := Scalar.addi v54 c0_i32_48
  let c64_i32_49 : BitVec 32 := 64#32
  let v56 : BitVec 32 := Scalar.muli v55 c64_i32_49
  let v57 : BitVec 32 := Scalar.addi v56 c0_i32_50
  let v58 : BitVec 32 := v57
  let v59 : Index := Scalar.indexCast v58
  let c256 : Index := 256#32
  ![v59.toNat, 256]
def k0_off18 (k0_t6 : Fin k0_t6_loop.trips) (c0_i32_48 : BitVec 32) (c0_i32_50 : BitVec 32) : Fin 2 → Nat :=
  let c0_i32_42 : BitVec 32 := 0#32
  let c1_i32_44 : BitVec 32 := 1#32
  let arg9 : BitVec 32 := Scf.iv c0_i32_42 c1_i32_44 k0_t6
  let c8_i32_47 : BitVec 32 := 8#32
  let v54 : BitVec 32 := Scalar.muli arg9 c8_i32_47
  let v55 : BitVec 32 := Scalar.addi v54 c0_i32_48
  let c64_i32_49 : BitVec 32 := 64#32
  let v56 : BitVec 32 := Scalar.muli v55 c64_i32_49
  let v57 : BitVec 32 := Scalar.addi v56 c0_i32_50
  let v58 : BitVec 32 := v57
  let v79 : Index := Scalar.indexCast v58
  let c640_53 : Index := 640#32
  ![v79.toNat, 640]
def k0_mult82 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_54 : BitVec 32 := 8#32
  let v83 : BitVec 32 := Scalar.muli arg9 c8_i32_54
  let c0_i32_55 : BitVec 32 := 0#32
  let v84 : BitVec 32 := Scalar.addi v83 c0_i32_55
  let c64_i32_56 : BitVec 32 := 64#32
  let v85 : BitVec 32 := Scalar.muli v84 c64_i32_56
  let c32_i32 : BitVec 32 := 32#32
  let v86 : BitVec 32 := Scalar.addi v85 c32_i32
  v86
def k0_mult83 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_63 : BitVec 32 := 8#32
  let v113 : BitVec 32 := Scalar.muli arg9 c8_i32_63
  let c1_i32_64 : BitVec 32 := 1#32
  let v114 : BitVec 32 := Scalar.addi v113 c1_i32_64
  let c64_i32_65 : BitVec 32 := 64#32
  let v115 : BitVec 32 := Scalar.muli v114 c64_i32_65
  let c0_i32_66 : BitVec 32 := 0#32
  let v116 : BitVec 32 := Scalar.addi v115 c0_i32_66
  v116
def k0_mult84 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_73 : BitVec 32 := 8#32
  let v142 : BitVec 32 := Scalar.muli arg9 c8_i32_73
  let c1_i32_74 : BitVec 32 := 1#32
  let v143 : BitVec 32 := Scalar.addi v142 c1_i32_74
  let c64_i32_75 : BitVec 32 := 64#32
  let v144 : BitVec 32 := Scalar.muli v143 c64_i32_75
  let c32_i32_76 : BitVec 32 := 32#32
  let v145 : BitVec 32 := Scalar.addi v144 c32_i32_76
  v145
def k0_mult85 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_83 : BitVec 32 := 8#32
  let v172 : BitVec 32 := Scalar.muli arg9 c8_i32_83
  let c2_i32 : BitVec 32 := 2#32
  let v173 : BitVec 32 := Scalar.addi v172 c2_i32
  let c64_i32_84 : BitVec 32 := 64#32
  let v174 : BitVec 32 := Scalar.muli v173 c64_i32_84
  let c0_i32_85 : BitVec 32 := 0#32
  let v175 : BitVec 32 := Scalar.addi v174 c0_i32_85
  v175
def k0_mult86 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_92 : BitVec 32 := 8#32
  let v201 : BitVec 32 := Scalar.muli arg9 c8_i32_92
  let c2_i32_93 : BitVec 32 := 2#32
  let v202 : BitVec 32 := Scalar.addi v201 c2_i32_93
  let c64_i32_94 : BitVec 32 := 64#32
  let v203 : BitVec 32 := Scalar.muli v202 c64_i32_94
  let c32_i32_95 : BitVec 32 := 32#32
  let v204 : BitVec 32 := Scalar.addi v203 c32_i32_95
  v204
def k0_mult87 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_102 : BitVec 32 := 8#32
  let v231 : BitVec 32 := Scalar.muli arg9 c8_i32_102
  let c3_i32 : BitVec 32 := 3#32
  let v232 : BitVec 32 := Scalar.addi v231 c3_i32
  let c64_i32_103 : BitVec 32 := 64#32
  let v233 : BitVec 32 := Scalar.muli v232 c64_i32_103
  let c0_i32_104 : BitVec 32 := 0#32
  let v234 : BitVec 32 := Scalar.addi v233 c0_i32_104
  v234
def k0_mult88 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_111 : BitVec 32 := 8#32
  let v260 : BitVec 32 := Scalar.muli arg9 c8_i32_111
  let c3_i32_112 : BitVec 32 := 3#32
  let v261 : BitVec 32 := Scalar.addi v260 c3_i32_112
  let c64_i32_113 : BitVec 32 := 64#32
  let v262 : BitVec 32 := Scalar.muli v261 c64_i32_113
  let c32_i32_114 : BitVec 32 := 32#32
  let v263 : BitVec 32 := Scalar.addi v262 c32_i32_114
  v263
def k0_mult89 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_121 : BitVec 32 := 8#32
  let v290 : BitVec 32 := Scalar.muli arg9 c8_i32_121
  let c4_i32_122 : BitVec 32 := 4#32
  let v291 : BitVec 32 := Scalar.addi v290 c4_i32_122
  let c64_i32_123 : BitVec 32 := 64#32
  let v292 : BitVec 32 := Scalar.muli v291 c64_i32_123
  let c0_i32_124 : BitVec 32 := 0#32
  let v293 : BitVec 32 := Scalar.addi v292 c0_i32_124
  v293
def k0_mult90 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_131 : BitVec 32 := 8#32
  let v319 : BitVec 32 := Scalar.muli arg9 c8_i32_131
  let c4_i32_132 : BitVec 32 := 4#32
  let v320 : BitVec 32 := Scalar.addi v319 c4_i32_132
  let c64_i32_133 : BitVec 32 := 64#32
  let v321 : BitVec 32 := Scalar.muli v320 c64_i32_133
  let c32_i32_134 : BitVec 32 := 32#32
  let v322 : BitVec 32 := Scalar.addi v321 c32_i32_134
  v322
def k0_mult91 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_141 : BitVec 32 := 8#32
  let v349 : BitVec 32 := Scalar.muli arg9 c8_i32_141
  let c5_i32 : BitVec 32 := 5#32
  let v350 : BitVec 32 := Scalar.addi v349 c5_i32
  let c64_i32_142 : BitVec 32 := 64#32
  let v351 : BitVec 32 := Scalar.muli v350 c64_i32_142
  let c0_i32_143 : BitVec 32 := 0#32
  let v352 : BitVec 32 := Scalar.addi v351 c0_i32_143
  v352
def k0_mult92 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_150 : BitVec 32 := 8#32
  let v378 : BitVec 32 := Scalar.muli arg9 c8_i32_150
  let c5_i32_151 : BitVec 32 := 5#32
  let v379 : BitVec 32 := Scalar.addi v378 c5_i32_151
  let c64_i32_152 : BitVec 32 := 64#32
  let v380 : BitVec 32 := Scalar.muli v379 c64_i32_152
  let c32_i32_153 : BitVec 32 := 32#32
  let v381 : BitVec 32 := Scalar.addi v380 c32_i32_153
  v381
def k0_mult93 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_160 : BitVec 32 := 8#32
  let v408 : BitVec 32 := Scalar.muli arg9 c8_i32_160
  let c6_i32 : BitVec 32 := 6#32
  let v409 : BitVec 32 := Scalar.addi v408 c6_i32
  let c64_i32_161 : BitVec 32 := 64#32
  let v410 : BitVec 32 := Scalar.muli v409 c64_i32_161
  let c0_i32_162 : BitVec 32 := 0#32
  let v411 : BitVec 32 := Scalar.addi v410 c0_i32_162
  v411
def k0_mult94 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_169 : BitVec 32 := 8#32
  let v437 : BitVec 32 := Scalar.muli arg9 c8_i32_169
  let c6_i32_170 : BitVec 32 := 6#32
  let v438 : BitVec 32 := Scalar.addi v437 c6_i32_170
  let c64_i32_171 : BitVec 32 := 64#32
  let v439 : BitVec 32 := Scalar.muli v438 c64_i32_171
  let c32_i32_172 : BitVec 32 := 32#32
  let v440 : BitVec 32 := Scalar.addi v439 c32_i32_172
  v440
def k0_mult95 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_179 : BitVec 32 := 8#32
  let v467 : BitVec 32 := Scalar.muli arg9 c8_i32_179
  let c7_i32 : BitVec 32 := 7#32
  let v468 : BitVec 32 := Scalar.addi v467 c7_i32
  let c64_i32_180 : BitVec 32 := 64#32
  let v469 : BitVec 32 := Scalar.muli v468 c64_i32_180
  let c0_i32_181 : BitVec 32 := 0#32
  let v470 : BitVec 32 := Scalar.addi v469 c0_i32_181
  v470
def k0_mult96 (k0_t6 : Fin k0_t6_loop.trips) : BitVec 32 :=
  let c0_i32_42 : BitVec 32 := 0#32
  let c1_i32_44 : BitVec 32 := 1#32
  let arg9 : BitVec 32 := Scf.iv c0_i32_42 c1_i32_44 k0_t6
  let c8_i32_188 : BitVec 32 := 8#32
  let v496 : BitVec 32 := Scalar.muli arg9 c8_i32_188
  let c7_i32_189 : BitVec 32 := 7#32
  let v497 : BitVec 32 := Scalar.addi v496 c7_i32_189
  let c64_i32_190 : BitVec 32 := 64#32
  let v498 : BitVec 32 := Scalar.muli v497 c64_i32_190
  let c32_i32_191 : BitVec 32 := 32#32
  let v499 : BitVec 32 := Scalar.addi v498 c32_i32_191
  v499
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x384 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4096x4096 : Shape := ⟨2, ![4096, 4096]⟩
abbrev S4096x64 : Shape := ⟨2, ![4096, 64]⟩
abbrev S4096x3456 : Shape := ⟨2, ![4096, 3456]⟩
abbrev S64x6912 : Shape := ⟨2, ![64, 6912]⟩
abbrev S4096x3456x2 : Shape := ⟨3, ![4096, 3456, 2]⟩
abbrev S4096x6912 : Shape := ⟨2, ![4096, 6912]⟩
abbrev S6912 : Shape := ⟨1, ![6912]⟩
abbrev S_ : Shape := ⟨0, ![]⟩
abbrev S1x6912 : Shape := ⟨2, ![1, 6912]⟩
abbrev S64x64x6912 : Shape := ⟨3, ![64, 64, 6912]⟩
abbrev S64x1x6912 : Shape := ⟨3, ![64, 1, 6912]⟩

abbrev nBuf : Space → Nat
  | .hbm => 38
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x64, .bf16⟩
  | .hbm, ⟨2, _⟩ => ⟨S4096x3456, .i8⟩
  | .hbm, ⟨3, _⟩ => ⟨S64x6912, .f32⟩
  | .hbm, ⟨4, _⟩ => ⟨S64x6912, .bf16⟩
  | .hbm, ⟨5, _⟩ => ⟨S4096x3456x2, .i8⟩
  | .hbm, ⟨6, _⟩ => ⟨S4096x6912, .i8⟩
  | .hbm, ⟨7, _⟩ => ⟨S4096x6912, .i32⟩
  | .hbm, ⟨8, _⟩ => ⟨S6912, .i32⟩
  | .hbm, ⟨9, _⟩ => ⟨S_, .i32⟩
  | .hbm, ⟨10, _⟩ => ⟨S6912, .i32⟩
  | .hbm, ⟨11, _⟩ => ⟨S6912, .i32⟩
  | .hbm, ⟨12, _⟩ => ⟨S_, .i32⟩
  | .hbm, ⟨13, _⟩ => ⟨S6912, .i32⟩
  | .hbm, ⟨14, _⟩ => ⟨S6912, .i32⟩
  | .hbm, ⟨15, _⟩ => ⟨S1x6912, .i32⟩
  | .hbm, ⟨16, _⟩ => ⟨S4096x6912, .i32⟩
  | .hbm, ⟨17, _⟩ => ⟨S4096x6912, .i32⟩
  | .hbm, ⟨18, _⟩ => ⟨S_, .i32⟩
  | .hbm, ⟨19, _⟩ => ⟨S4096x6912, .i32⟩
  | .hbm, ⟨20, _⟩ => ⟨S4096x6912, .i32⟩
  | .hbm, ⟨21, _⟩ => ⟨S_, .i32⟩
  | .hbm, ⟨22, _⟩ => ⟨S4096x6912, .i32⟩
  | .hbm, ⟨23, _⟩ => ⟨S4096x6912, .i32⟩
  | .hbm, ⟨24, _⟩ => ⟨S_, .i32⟩
  | .hbm, ⟨25, _⟩ => ⟨S4096x6912, .i32⟩
  | .hbm, ⟨26, _⟩ => ⟨S4096x6912, .i32⟩
  | .hbm, ⟨27, _⟩ => ⟨S4096x6912, .bf16⟩
  | .hbm, ⟨28, _⟩ => ⟨S64x64x6912, .bf16⟩
  | .hbm, ⟨29, _⟩ => ⟨S64x6912, .bf16⟩
  | .hbm, ⟨30, _⟩ => ⟨S64x1x6912, .bf16⟩
  | .hbm, ⟨31, _⟩ => ⟨S64x64x6912, .bf16⟩
  | .hbm, ⟨32, _⟩ => ⟨S64x64x6912, .bf16⟩
  | .hbm, ⟨33, _⟩ => ⟨S4096x6912, .bf16⟩
  | .hbm, ⟨34, _⟩ => ⟨S4096x6912, .f32⟩
  | .hbm, ⟨35, _⟩ => ⟨S4096x6912, .f32⟩
  | .hbm, ⟨36, _⟩ => ⟨S4096x6912, .f32⟩
  | .hbm, ⟨37, _⟩ => ⟨S4096x6912, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.KernelFrame.lean ====
/- The frame of the matmul kernel as printed: every run ends, its arguments unchanged and every semaphore counter at
   zero. Nothing is said here of what it stores, so the scratch and the result block stand at some contents throughout. -/
module

public import proofs.«01_k».proof.Proof.Gen.Kernel.Frame
public import proofs.«01_k».proof.Proof.Gen.Kernel.Loops
public import Idealize.ShloMosaic.Lib.Ring

@[expose] public section

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The body at any point, on whole buffers: the inputs stay as they are; the result block and the scratch go from some
    contents to some contents. -/
theorem run_any (c : Dev nD) (i : grid0.Coords) (arg2 : Memref sig .tc .vmem S1024x4096 .bf16) (harg2 : arg2.IsWhole) (arg3 : Memref sig .tc .vmem S1024x64 .bf16) (harg3 : arg3.IsWhole) (arg4 : Memref sig .tc .vmem S4096x384 .i8) (harg4 : arg4.IsWhole) (arg5 : Memref sig .tc .vmem S64x768 .f32) (harg5 : arg5.IsWhole) (arg6 : Memref sig .tc .vmem S64x768 .bf16) (harg6 : arg6.IsWhole) (arg7 : Memref sig .tc .vmem S1024x768 .bf16) (harg7 : arg7.IsWhole) (arg8 : Memref sig .tc .vmem S4096x768 .bf16) (harg8 : arg8.IsWhole)
    (x0 : Vec F S1024x4096 .bf16) (x1 : Vec F S1024x64 .bf16) (x2 : Vec F S4096x384 .i8) (x3 : Vec F S64x768 .f32) (x4 : Vec F S64x768 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)) -∗ K ⟨⟩))
          ⊢ wp frame (wpE (defs₀ (F := F)) Variants.none c none) E (cc0_matmul i arg2 harg2 arg3 harg3 arg4 harg4 arg5 harg5 arg6 harg6 arg7 harg7 arg8 harg8) K := by
    intro E K
    simp only [cc0_matmul_eq_skeleton]; unfold cc0_matmul_skel
    simp only [k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    by_cases hc0 : k0_cond1 i = 1#1
    all_goals
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _, _; isplitr; swap; · iexact H5
        ipureintro; rfl
      iexists _, _; isplitr; swap; · iexact HS0
      ipureintro; rfl

variable (m : (ℓ : Loc nD τ sig) → Buf (Elt F) ℓ) (ρ : Dev nD → PrngReg)

/-! ## The buffers the body is called with -/

abbrev ms0_0 (t : Fin cfg0.N) : Memref sig .tc .vmem S1024x4096 .bf16 := win0_0.stage (cfg0.slots t 0)
abbrev ms0_1 (t : Fin cfg0.N) : Memref sig .tc .vmem S1024x64 .bf16 := win0_1.stage (cfg0.slots t 1)
abbrev ms0_2 (t : Fin cfg0.N) : Memref sig .tc .vmem S4096x384 .i8 := win0_2.stage (cfg0.slots t 2)
abbrev ms0_3 (t : Fin cfg0.N) : Memref sig .tc .vmem S64x768 .f32 := win0_3.stage (cfg0.slots t 3)
abbrev ms0_4 (t : Fin cfg0.N) : Memref sig .tc .vmem S64x768 .bf16 := win0_4.stage (cfg0.slots t 4)
abbrev ms0_5 (t : Fin cfg0.N) : Memref sig .tc .vmem S1024x768 .bf16 := win0_5.stage (cfg0.slots t 5)
/-- The scratch that holds the dequantised tile. -/
abbrev scM0_0 : Memref sig .tc .vmem S4096x768 .bf16 := Memref.whole cc0_scratch0

/-- The pipeline's own invariant: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The pipeline's proof data -/

/-- The result window: nothing is said of what the kernel leaves in it. -/
def forgets0 : Fin 6 → Bool := fun w => w.val == 5

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 800000 in
/-- The body at any point takes `bodyPre` to `bodyPost`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩⟩
  iapply ((run_any c (grid0.coords t) _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's entry for the kernel is the body as the pipeline calls it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every run of the kernel ends, with each input array as the pipeline found it and every semaphore counter at zero. -/
theorem run_main_quiescent : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run of the kernel ends with its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(Pipeline.RDat.FramePost.arr_in h.1 c 0 rfl).trans (A_eq m c 0), (Pipeline.RDat.FramePost.arr_in h.1 c 1 rfl).trans (A_eq m c 1),
       (Pipeline.RDat.FramePost.arr_in h.1 c 2 rfl).trans (A_eq m c 2), (Pipeline.RDat.FramePost.arr_in h.1 c 3 rfl).trans (A_eq m c 3),
       (Pipeline.RDat.FramePost.arr_in h.1 c 4 rfl).trans (A_eq m c 4)⟩, h.2⟩) (run_main_quiescent m ρ)

end Cert.Kernel.Mm

end
-- ==== Proof.Nibble.lean ====
/- Four-bit codes packed two to a byte: what shifting, masking and re-reading four rows of bytes as one row of
   words leaves in each byte.  Arithmetic of bit vectors only; no program is mentioned. -/
module

public import Idealize.ShloMosaic.Lib.BitcastFour
public import Idealize.ShloMosaic.Lib.Pointwise

@[expose] public section

namespace Cert.Int4

open Idealize.ShloMosaic

/-- Words read back as bytes, at rank two: bit `q` of the byte at row `p`, lane `l`, is bit `8 (p mod 4) + q` of the
    word at row `p / 4` of that lane. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (p : Fin R) (l : Fin n) (q : Nat) (hq : q < 8) (a : Fin r)
    (ha : a.val = p.val / 4) :
    (bitcast ⟨2, ![R, n]⟩ 8 x h (ValueIdx.ix2 p l)).getLsbD q = (x (ValueIdx.ix2 a l)).getLsbD (8 * (p.val % 4) + q) := by
  rw [bitcast_getLsbD x h _ q hq (by decide)]
  have hrow : (Shape.row (s := ⟨2, ![R, n]⟩) (ValueIdx.ix2 p l)) = p.val := rfl
  have e : (Shape.row (s := ⟨2, ![R, n]⟩) (ValueIdx.ix2 p l) * 8 + q) % 32 = 8 * (p.val % 4) + q := by rw [hrow]; omega
  rw [e]
  congr 2
  funext c
  match c with
  | ⟨0, _⟩ => exact Fin.ext ((h.srcIdx_row _ _ _ ⟨0, Nat.zero_lt_two⟩ rfl).trans (by show (p.val * 8 + q) / 32 = a.val; omega))
  | ⟨1, _⟩ => exact Fin.ext (h.srcIdx_other _ _ _ ⟨1, Nat.one_lt_two⟩ (by show ¬ 1 + 2 = 2; omega))

/-- The code kept in the high half of a byte, the low half zero: the byte's high half as it is, or its low half
    moved up. -/
def highHalf (b : BitVec 8) (odd : Bool) : BitVec 8 := if odd then b &&& 0xF0#8 else b <<< 4

/-- Bit `q` of `highHalf`. -/
theorem highHalf_getLsbD (b : BitVec 8) (odd : Bool) (q : Nat) (hq : q < 8) :
    (highHalf b odd).getLsbD q = (decide (4 ≤ q) && b.getLsbD (if odd then q else q - 4)) := by
  revert b
  interval_cases q <;> cases odd <;> decide

/-- The mask `0xF0F0F0F0` at a bit. -/
theorem mask_getLsbD (k q : Nat) (hk : k < 4) (hq : q < 8) : (4042322160#32).getLsbD (8 * k + q) = decide (4 ≤ q) := by
  interval_cases k <;> interval_cases q <;> decide

/-- Four rows of bytes read as words, lanes gathered, each word moved up by 0 or 4 bits, masked, and read back as
    bytes: each byte is the chosen half of the gathered byte, in its high half. -/
theorem gather_shift_mask {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (w : (⟨2, ![r, n]⟩ : Shape).Idx → BitVec 32) (p : Fin R) (l : Fin n) (a : Fin r) (ha : a.val = p.val / 4)
    (s : Fin n) (odd : Bool)
    (hw : w (ValueIdx.ix2 a l) = IntOp.andi (IntOp.shli .vector (bitcast ⟨2, ![r, n]⟩ 32 x h (ValueIdx.ix2 a s)) (if odd then 0#32 else 4#32)) 4042322160#32) :
    bitcast ⟨2, ![R, n]⟩ 8 w h' (ValueIdx.ix2 p l) = highHalf (x (ValueIdx.ix2 p s)) odd := by
  apply BitVec.eq_of_getLsbD_eq
  intro q hq
  rw [bitcast_32_8_getLsbD_ix2 w h' p l q hq a ha, hw, highHalf_getLsbD _ _ _ hq]
  have hq4 : (p.val % 4) < 4 := Nat.mod_lt _ (by decide)
  have bit : ∀ b : Nat, b < 32 → ∀ p' : Fin R, p'.val = 4 * a.val + b / 8 →
      (bitcast ⟨2, ![r, n]⟩ 32 x h (ValueIdx.ix2 a s)).getLsbD b = (x (ValueIdx.ix2 p' s)).getLsbD (b % 8) :=
    fun b hb p' hp' => bitcast_8_32_getLsbD_ix2 x h a s b hb p' hp'
  have hsh : ∀ v : BitVec 32, IntOp.shli .vector v (if odd then 0#32 else 4#32) = v <<< (if odd then 0 else 4 : Nat) := by
    intro v; cases odd <;> simp [IntOp.shli]
  rw [hsh, IntOp.andi, BitVec.getLsbD_and, mask_getLsbD _ _ hq4 hq, BitVec.getLsbD_shiftLeft]
  by_cases h4 : 4 ≤ q
  · cases odd
    · simp only [Bool.false_eq_true, if_false, h4, decide_true, Bool.and_true, Bool.true_and]
      rw [bit (8 * (p.val % 4) + q - 4) (by omega) p (by omega)]
      have e : (8 * (p.val % 4) + q - 4) % 8 = q - 4 := by omega
      have e1 : 8 * (p.val % 4) + q < 32 := by omega
      have e2 : ¬ 8 * (p.val % 4) + q < 4 := by omega
      rw [e]; simp [e1, e2]
    · simp only [if_true, h4, decide_true, Bool.and_true, Bool.true_and]
      rw [bit (8 * (p.val % 4) + q - 0) (by omega) p (by omega)]
      have e : (8 * (p.val % 4) + q - 0) % 8 = q := by omega
      have e1 : 8 * (p.val % 4) + q < 32 := by omega
      rw [e]; simp [e1]
  · simp [h4]

end Cert.Int4
-- ==== Proof.Tile.lean ====
/- The dequantised weight tile of one column block of the matmul kernel: what each entry of the 4096×768 scratch
   is, and that each 32×128 store of the kernel's dequantising loops writes those entries. -/
module

public import proofs.«01_k».proof.Proof.Gen.KernelIdeal.Skeleton
public import proofs.«01_k».proof.Proof.Nibble
public import Idealize.ShloMosaic.Lib.Writes
public import Idealize.ShloMosaic.Lib.Pointwise
public import Idealize.ShloMosaic.Lib.WholeRead
public import Idealize.ShloMosaic.Lib.ValueIdx
public import Idealize.ShloMosaic.Lib.Pipeline.ValueKit

@[expose] public section

set_option maxRecDepth 16384

noncomputable section

namespace Cert.KernelIdeal.Mm

open Idealize.ShloMosaic Idealize.ShloMosaic.TcCoe Idealize.SL.Sem
open Cert.KernelIdeal.Gen
open Cert.Int4

variable {F : FTy → Type} [FloatOps F]

/-- The tile's entry at row `r`, column `c`: the four-bit code packed in byte `c / 2` of row `r` (the low half for
    an even column), times the scale of row group `r / 64` of the column rounded to bf16. -/
def tileAt (w : Vec F S4096x384 .i8) (s : Vec F S64x768 .f32) (r : Fin 4096) (c : Fin 768) : F .bf16 :=
  FloatOps.mulf (FloatOps.mulf (FloatOps.sitofp .bf16 (highHalf (w (ValueIdx.ix2 r ⟨c.val / 2, by omega⟩)) (decide (c.val % 2 = 1))))
    (Scalar.ofBits .bf16 0x3D80#16))
    (FloatOps.truncf .bf16 bitsLt_bf16_f32 (s (ValueIdx.ix2 ⟨r.val / 64, by omega⟩ c)))

/-- The whole tile. -/
def tileOf (w : Vec F S4096x384 .i8) (s : Vec F S64x768 .f32) : Vec F S4096x768 .bf16 := fun y => tileAt w s (y 0) (y 1)

/-- The vector one store writes: thirty-two rows of packed bytes, gathered across lanes by `src`, each lane's half
    picked by shift and mask, as numbers, times one row of eight of the scales. -/
def piece (src : IVec S8x128 32) (g : Nat) (hg : S8x128.Slices ![g, 0] S1x128) (sc : Vec F S8x128 .f32) (x : Vec F S32x128 .i8) : FVec F S32x128 .bf16 :=
  shapeCast S32x128
    (mulf (mulf (sitofp .bf16 (bitcast S32x128 8
        (andi (shli (dynamicGather 1 (bitcast S8x128 32 x bitcasts_S32x128_w8_S8x128_w32)
          (shapeCast S8x128 (shapeCast S8x128x1 (select (cmpi .slt src (broadcast S8x128 0#32)) (addi src (broadcast S8x128 128#32)) src)
            shapeCasts_S8x128_S8x128x1) shapeCasts_S8x128x1_S8x128)) k0_pay192)
          (broadcast S8x128 4042322160#32)) bitcasts_S8x128_w32_S32x128_w8))
      (broadcast S32x128 (Scalar.ofBits .bf16 0x3D80#16)))
      (broadcastTo S32x128 (extractStridedSlice S1x128 ![g, 0] (truncf .bf16 sc bitsLt_bf16_f32) hg) broadcasts_S1x128_S32x128))
    shapeCasts_S32x128_S32x128

/-- The shift amounts: 4 on even lanes, 0 on odd ones. -/
theorem shift_apply (a : Fin 8) (l : Fin 128) : k0_pay192 (ValueIdx.ix2 a l) = if decide (l.val % 2 = 1) then 0#32 else 4#32 := by
  revert a l; decide +kernel

/-- A lane number below 128 is nonnegative as a signed word, so the wrap-around select leaves it. -/
theorem wrap_lane : ∀ n : Fin 128, Scalar.select (IntOp.cmpi .slt (BitVec.ofNat 32 n.val) 0#32) (IntOp.addi (BitVec.ofNat 32 n.val) 128#32) (BitVec.ofNat 32 n.val)
    = BitVec.ofNat 32 n.val := by decide +kernel

/-- The gather of `piece`: row `a`, lane `l` reads row `a`, lane `n` when `src` holds `n` there. -/
theorem gather_apply (y : IVec S8x128 32) (src : IVec S8x128 32) (a : Fin 8) (l n : Fin 128) (hsrc : src (ValueIdx.ix2 a l) = BitVec.ofNat 32 n.val) :
    dynamicGather 1 y (shapeCast S8x128 (shapeCast S8x128x1 (select (cmpi .slt src (broadcast S8x128 0#32)) (addi src (broadcast S8x128 128#32)) src)
      shapeCasts_S8x128_S8x128x1) shapeCasts_S8x128x1_S8x128) (ValueIdx.ix2 a l) = y (ValueIdx.ix2 a n) := by
  rw [shapeCast_shapeCast, dynamicGather_apply]
  have e : select (cmpi .slt src (broadcast S8x128 0#32)) (addi src (broadcast S8x128 128#32)) src (ValueIdx.ix2 a l) = BitVec.ofNat 32 n.val := by
    show Scalar.select (IntOp.cmpi .slt (src (ValueIdx.ix2 a l)) 0#32) (IntOp.addi (src (ValueIdx.ix2 a l)) 128#32) (src (ValueIdx.ix2 a l)) = _
    rw [hsrc]; exact wrap_lane n
  refine congrArg y (funext fun b => ?_)
  rw [e]
  have hn := n.isLt
  fin_cases b
  · rfl
  · refine Fin.ext ?_
    show (BitVec.ofNat 32 n.val).toNat % 128 = n.val
    rw [BitVec.toNat_ofNat]; omega

/-- `piece` at an entry, when `src` gathers lane `l / 2 + 64 half`. -/
theorem piece_apply (src : IVec S8x128 32) (half : Nat)
    (hsrc : ∀ (a : Fin 8) (l : Fin 128), src (ValueIdx.ix2 a l) = BitVec.ofNat 32 (l.val / 2 + 64 * half)) (hh : half < 2)
    (g : Nat) (hg : S8x128.Slices ![g, 0] S1x128) (hg8 : g < 8) (sc : Vec F S8x128 .f32) (x : Vec F S32x128 .i8)
    (p : Fin 32) (l : Fin 128) :
    piece src g hg sc x (ValueIdx.ix2 p l)
      = FloatOps.mulf (FloatOps.mulf (FloatOps.sitofp .bf16 (highHalf (x (ValueIdx.ix2 p ⟨l.val / 2 + 64 * half, by omega⟩)) (decide (l.val % 2 = 1))))
          (Scalar.ofBits .bf16 0x3D80#16))
        (FloatOps.truncf .bf16 bitsLt_bf16_f32 (sc (ValueIdx.ix2 ⟨g, hg8⟩ l))) := by
  unfold piece
  rw [shapeCast_self]
  have e1 : bitcast S32x128 8 (andi (shli (dynamicGather 1 (bitcast S8x128 32 x bitcasts_S32x128_w8_S8x128_w32)
          (shapeCast S8x128 (shapeCast S8x128x1 (select (cmpi .slt src (broadcast S8x128 0#32)) (addi src (broadcast S8x128 128#32)) src)
            shapeCasts_S8x128_S8x128x1) shapeCasts_S8x128x1_S8x128)) k0_pay192)
          (broadcast S8x128 4042322160#32)) bitcasts_S8x128_w32_S32x128_w8 (ValueIdx.ix2 p l)
      = highHalf (x (ValueIdx.ix2 p ⟨l.val / 2 + 64 * half, by omega⟩)) (decide (l.val % 2 = 1)) := by
    refine gather_shift_mask x bitcasts_S32x128_w8_S8x128_w32 bitcasts_S8x128_w32_S32x128_w8 _ p l ⟨p.val / 4, by omega⟩ rfl _ _ ?_
    show IntOp.andi (IntOp.shli .vector (dynamicGather _ _ _ _) (k0_pay192 _)) _ = _
    rw [gather_apply _ src _ l ⟨l.val / 2 + 64 * half, by omega⟩ (hsrc _ l), shift_apply]
    rfl
  have e2 : broadcastTo S32x128 (extractStridedSlice S1x128 ![g, 0] (truncf .bf16 sc bitsLt_bf16_f32) hg) broadcasts_S1x128_S32x128 (ValueIdx.ix2 p l)
      = FloatOps.truncf .bf16 bitsLt_bf16_f32 (sc (ValueIdx.ix2 ⟨g, hg8⟩ l)) := by
    rw [broadcastTo_apply _ _ _ (ValueIdx.ix2 (0 : Fin 1) l) (fun b => by fin_cases b <;> rfl),
      extractStridedSlice_apply _ _ _ _ (ValueIdx.ix2 (⟨g, hg8⟩ : Fin 8) l) (fun b => by fin_cases b <;> simp)]
    rfl
  rw [mulf_apply, mulf_apply, ValueIdx.sitofp_apply, e1, e2]
  rfl

/-- One row of the eight scale rows is a slice of them. -/
theorem slices_row : ∀ g : Fin 8, S8x128.Slices ![g.val, 0] S1x128 := by decide +kernel

variable (arg4 : Memref sig .tc .vmem S4096x384 .i8) (harg4 : arg4.IsWhole) (arg5 : Memref sig .tc .vmem S64x768 .f32) (harg5 : arg5.IsWhole)

/-- Store `u` of the sixteen of one trip: where it writes and what, given where the trip's loads and stores start. -/
def bandPiece (X4 : BufTy.Contents (Elt F) arg4.view.ty) (X5 : BufTy.Contents (Elt F) arg5.view.ty)
    (offT : BitVec 32 → BitVec 32 → Fin 2 → Nat) (inbT : ∀ (r₁ : Fin 8) (r₂ : Fin 2), ∀ a, offT (BitVec.ofNat 32 r₁.val) (BitVec.ofNat 32 (32 * r₂.val)) a + S32x128.size a ≤ S4096x768.size a)
    (offW : BitVec 32 → BitVec 32 → Fin 2 → Nat) (inbW : ∀ (r₁ : Fin 8) (r₂ : Fin 2), ∀ a, offW (BitVec.ofNat 32 r₁.val) (BitVec.ofNat 32 (32 * r₂.val)) a + S32x128.size a ≤ S4096x384.size a)
    (offS : Fin 2 → Nat) (inbS : ∀ a, offS a + S8x128.size a ≤ S64x768.size a) (src : IVec S8x128 32) (u : Fin 8 × Fin 2) :
    View.Piece (Elt F) S4096x768 .bf16 :=
  ⟨Rect.unit (offT (BitVec.ofNat 32 u.1.val) (BitVec.ofNat 32 (32 * u.2.val))) S32x128.size (inbT u.1 u.2),
    piece src u.1.val (slices_row u.1)
      (View.readAt (Elt F) arg5.view (Rect.unit (s := S64x768) offS S8x128.size inbS).toLoadRect X5)
      (View.readAt (Elt F) arg4.view (Rect.unit (s := S4096x384) (offW (BitVec.ofNat 32 u.1.val) (BitVec.ofNat 32 (32 * u.2.val))) S32x128.size (inbW u.1 u.2)).toLoadRect X4)⟩

/-- The sixteen stores of one trip, last first. -/
def tripOrder : List (Fin 8 × Fin 2) :=
  [(7, 1), (7, 0), (6, 1), (6, 0), (5, 1), (5, 0), (4, 1), (4, 0), (3, 1), (3, 0), (2, 1), (2, 0), (1, 1), (1, 0), (0, 1), (0, 0)]

/-- Every row of scales and both halves of its 64 rows occur among the sixteen. -/
theorem mem_tripOrder : ∀ u, u ∈ tripOrder := by decide

/-- Where a unit-stride rectangle's load reads, by coordinates. -/
theorem unit_idx {s : Shape} {off size : Fin s.rank → Nat} (inb) (off' : Fin s.rank → Nat) (ho : off = off')
    (j : (Rect.unit off size inb).toLoadRect.shape.Idx) (y : s.Idx) (h : ∀ a, (y a).val = off' a + (j a).val) : (Rect.unit off size inb).toLoadRect.idx j = y := by
  funext a
  refine Fin.ext ?_
  rw [LoadRect.idx_apply, h a, ← ho]
  show off a + 1 * (j a).val = _
  omega

/-- A list of stores writes the tile's entries and reaches every row from `lo` to `hi` of column block `cb`. -/
def Fills (w : Vec F S4096x384 .i8) (s : Vec F S64x768 .f32) (cb lo hi : Nat) (L : List (View.Piece (Elt F) S4096x768 .bf16)) : Prop :=
  (∀ p ∈ L, ∀ x : p.1.shape.Idx, p.2 x = tileOf w s (p.1.emb x)) ∧
  ∀ y : S4096x768.Idx, lo ≤ (y 0).val → (y 0).val < hi → 128 * cb ≤ (y 1).val → (y 1).val < 128 * cb + 128 → ∃ p ∈ L, y ∈ p.1.set

/-- Stores of two row ranges that meet are stores of the union. -/
theorem Fills.append {w : Vec F S4096x384 .i8} {s : Vec F S64x768 .f32} {cb lo mid hi : Nat} {L₁ L₂ : List (View.Piece (Elt F) S4096x768 .bf16)}
    (h₁ : Fills w s cb mid hi L₁) (h₂ : Fills w s cb lo mid L₂) : Fills w s cb lo hi (L₁ ++ L₂) := by
  refine ⟨fun p hp => (List.mem_append.1 hp).elim (h₁.1 p) (h₂.1 p), fun y hl hh hc hc' => ?_⟩
  by_cases hm : mid ≤ (y 0).val
  · obtain ⟨p, hp, hy⟩ := h₁.2 y hm hh hc hc'
    exact ⟨p, List.mem_append_left _ hp, hy⟩
  · obtain ⟨p, hp, hy⟩ := h₂.2 y hl (by omega) hc hc'
    exact ⟨p, List.mem_append_right _ hp, hy⟩

/-- The sixteen stores of trip `k` write the 512 rows from `512 k` of their column block with the tile's entries. -/
theorem fills_trip (w : Vec F S4096x384 .i8) (s : Vec F S64x768 .f32) (k cb : Nat) (hk : k < 8) (hcb : cb < 6)
    {offT : BitVec 32 → BitVec 32 → Fin 2 → Nat} (inbT : ∀ (r₁ : Fin 8) (r₂ : Fin 2), ∀ a, offT (BitVec.ofNat 32 r₁.val) (BitVec.ofNat 32 (32 * r₂.val)) a + S32x128.size a ≤ S4096x768.size a)
    {offW : BitVec 32 → BitVec 32 → Fin 2 → Nat} (inbW : ∀ (r₁ : Fin 8) (r₂ : Fin 2), ∀ a, offW (BitVec.ofNat 32 r₁.val) (BitVec.ofNat 32 (32 * r₂.val)) a + S32x128.size a ≤ S4096x384.size a)
    {offS : Fin 2 → Nat} (inbS : ∀ a, offS a + S8x128.size a ≤ S64x768.size a) (src : IVec S8x128 32)
    (hT : ∀ (r₁ : Fin 8) (r₂ : Fin 2), offT (BitVec.ofNat 32 r₁.val) (BitVec.ofNat 32 (32 * r₂.val)) = ![512 * k + 64 * r₁.val + 32 * r₂.val, 128 * cb])
    (hW : ∀ (r₁ : Fin 8) (r₂ : Fin 2), offW (BitVec.ofNat 32 r₁.val) (BitVec.ofNat 32 (32 * r₂.val)) = ![512 * k + 64 * r₁.val + 32 * r₂.val, 128 * (cb / 2)])
    (hS : offS = ![8 * k, 128 * cb])
    (hsrc : ∀ (a : Fin 8) (l : Fin 128), src (ValueIdx.ix2 a l) = BitVec.ofNat 32 (l.val / 2 + 64 * (cb % 2))) :
    Fills w s cb (512 * k) (512 * (k + 1))
      (tripOrder.map (bandPiece arg4 arg5 (harg4.unread w) (harg5.unread s) offT inbT offW inbW offS inbS src)) := by
  refine ⟨fun p hp => ?_, fun y hl hh hc hc' => ?_⟩
  · obtain ⟨u, -, rfl⟩ := List.mem_map.1 hp
    intro (x : S32x128.Idx)
    obtain ⟨p, l, rfl⟩ : ∃ p l, x = ValueIdx.ix2 p l := ⟨x 0, x 1, ValueIdx.eq_ix2 x⟩
    have hu1 := u.1.isLt
    have hu2 := u.2.isLt
    have hp' := p.isLt
    have hl' := l.isLt
    have hemb : (Rect.unit (s := S4096x768) (offT (BitVec.ofNat 32 u.1.val) (BitVec.ofNat 32 (32 * u.2.val))) S32x128.size (inbT u.1 u.2)).emb (ValueIdx.ix2 p l)
        = ValueIdx.ix2 (⟨512 * k + 64 * u.1.val + 32 * u.2.val + p.val, by omega⟩ : Fin 4096) (⟨128 * cb + l.val, by omega⟩ : Fin 768) := by
      funext b
      refine Fin.ext ?_
      rw [ValueKit.rect_emb_unit_val, congrFun (hT u.1 u.2) b]
      fin_cases b <;> rfl
    refine Eq.trans (piece_apply src (cb % 2) hsrc (Nat.mod_lt _ (by decide)) u.1.val (slices_row u.1) u.1.isLt _ _ p l) ?_
    refine Eq.trans ?_ (congrArg (tileOf w s) hemb).symm
    rw [harg4.readAt_unread, harg5.readAt_unread,
      unit_idx (inbW u.1 u.2) _ (hW u.1 u.2) _ (ValueIdx.ix2 (⟨512 * k + 64 * u.1.val + 32 * u.2.val + p.val, by omega⟩ : Fin 4096) (⟨(128 * cb + l.val) / 2, by omega⟩ : Fin 384))
        (fun b => by fin_cases b <;> dsimp <;> omega),
      unit_idx (s := S64x768) (size := S8x128.size) inbS _ hS (ValueIdx.ix2 (⟨u.1.val, u.1.isLt⟩ : Fin 8) l) (ValueIdx.ix2 (⟨(512 * k + 64 * u.1.val + 32 * u.2.val + p.val) / 64, by omega⟩ : Fin 64) (⟨128 * cb + l.val, by omega⟩ : Fin 768))
        (Fin.forall_fin_two.2 ⟨show (512 * k + 64 * u.1.val + 32 * u.2.val + p.val) / 64 = 8 * k + u.1.val by omega, rfl⟩)]
    show _ = tileAt w s _ _
    unfold tileAt
    rw [show (128 * cb + l.val) % 2 = l.val % 2 by omega]
  · have h0 : (y 0).val / 64 - 8 * k < 8 := by omega
    have h1 : (y 0).val % 64 / 32 < 2 := by omega
    refine ⟨_, List.mem_map.2 ⟨(⟨(y 0).val / 64 - 8 * k, h0⟩, ⟨(y 0).val % 64 / 32, h1⟩), mem_tripOrder _, rfl⟩, ?_⟩
    refine (Rect.mem_set_unit (inb := inbT _ _)).2 fun b => ?_
    rw [congrFun (hT _ _) b]
    fin_cases b
    · show 512 * k + 64 * ((y 0).val / 64 - 8 * k) + 32 * ((y 0).val % 64 / 32) ≤ (y 0).val ∧ (y 0).val < 512 * k + 64 * ((y 0).val / 64 - 8 * k) + 32 * ((y 0).val % 64 / 32) + 32
      omega
    · exact ⟨hc, hc'⟩

/-- All eight trips of a loop fill its column block. -/
theorem fills_loop (w : Vec F S4096x384 .i8) (s : Vec F S64x768 .f32) (cb : Nat) {N : Nat} (hN : N = 8) (pb : Nat → List (View.Piece (Elt F) S4096x768 .bf16))
    (trip : Fin N → List (View.Piece (Elt F) S4096x768 .bf16)) (h0 : pb 0 = []) (hs : ∀ k : Fin N, pb (k.val + 1) = trip k ++ pb k.val)
    (ht : ∀ k : Fin N, Fills w s cb (512 * k.val) (512 * (k.val + 1)) (trip k)) : Fills w s cb 0 4096 (pb N) := by
  have h : ∀ n, n ≤ N → Fills w s cb 0 (512 * n) (pb n) := by
    intro n
    induction n with
    | zero => intro _; rw [h0]; exact ⟨fun p hp => absurd hp List.not_mem_nil, fun y _ hh => absurd hh (Nat.not_lt_zero _)⟩
    | succ n ih =>
      intro hn
      rw [hs ⟨n, hn⟩]
      exact (ht ⟨n, hn⟩).append (ih (by omega))
  have := h N le_rfl
  rw [hN] at this ⊢
  exact this

/-- Stores that fill the six column blocks one after the other, written over anything, read the whole tile. -/
theorem read_fills (w : Vec F S4096x384 .i8) (s : Vec F S64x768 .f32) {κ : Kind} {sp : Space} (v : View sig κ sp S4096x768 .bf16) (f : v.ty.Contents (Elt F))
    {L₀ L₁ L₂ L₃ L₄ L₅ : List (View.Piece (Elt F) S4096x768 .bf16)} (h₀ : Fills w s 0 0 4096 L₀) (h₁ : Fills w s 1 0 4096 L₁)
    (h₂ : Fills w s 2 0 4096 L₂) (h₃ : Fills w s 3 0 4096 L₃) (h₄ : Fills w s 4 0 4096 L₄) (h₅ : Fills w s 5 0 4096 L₅) :
    v.read (Elt F) (v.writes (Elt F) f (L₅ ++ (L₄ ++ (L₃ ++ (L₂ ++ (L₁ ++ L₀)))))) = tileOf w s := by
  funext y
  refine View.read_writes_apply_of_pieces v f (tileOf w s) _ (fun p hp => ?_) y ?_
  · simp only [List.mem_append] at hp
    rcases hp with hp | hp | hp | hp | hp | hp
    exacts [h₅.1 p hp, h₄.1 p hp, h₃.1 p hp, h₂.1 p hp, h₁.1 p hp, h₀.1 p hp]
  · have hr : (y 0).val < 4096 := (y 0).isLt
    have hc : (y 1).val < 768 := (y 1).isLt
    have hit : ∀ cb L, Fills w s cb 0 4096 L → (y 1).val / 128 = cb → ∃ p ∈ L, y ∈ p.1.set :=
      fun cb L h e => h.2 y (Nat.zero_le _) hr (by omega) (by omega)
    have hcb : (y 1).val / 128 = 5 ∨ (y 1).val / 128 = 4 ∨ (y 1).val / 128 = 3 ∨ (y 1).val / 128 = 2 ∨ (y 1).val / 128 = 1 ∨ (y 1).val / 128 = 0 := by omega
    simp only [List.mem_append, or_and_right, exists_or]
    exact hcb.imp (hit 5 _ h₅) (Or.imp (hit 4 _ h₄) (Or.imp (hit 3 _ h₃) (Or.imp (hit 2 _ h₂) (Or.imp (hit 1 _ h₁) (hit 0 _ h₀)))))

end Cert.KernelIdeal.Mm

end
-- ==== Proof.Stores.lean ====
/- What the kernel's six dequantising loops leave in the scratch: the whole tile. -/
module

public import proofs.«01_k».proof.Proof.Gen.KernelIdeal.Loops
public import proofs.«01_k».proof.Proof.Tile

@[expose] public section

set_option maxRecDepth 16384

noncomputable section

namespace Cert.KernelIdeal.Mm

open Idealize.ShloMosaic Idealize.ShloMosaic.TcCoe Idealize.SL.Sem
open Cert.KernelIdeal.Gen

variable {F : FTy → Type} [FloatOps F]

/-- The lane numbers, as the kernel computes them. -/
def lanes : IVec S8x128 32 := iota .tc S8x128 32 [1] iota_S8x128_d1_w32

variable (𝒱 : Variants) (c : Dev nD) (bd : Option 𝒱.V) (i : grid0.Coords) (arg2 : Memref sig .tc .vmem S1024x4096 .bf16) (harg2 : arg2.IsWhole) (arg3 : Memref sig .tc .vmem S1024x64 .bf16) (harg3 : arg3.IsWhole) (arg4 : Memref sig .tc .vmem S4096x384 .i8) (harg4 : arg4.IsWhole) (arg5 : Memref sig .tc .vmem S64x768 .f32) (harg5 : arg5.IsWhole) (arg6 : Memref sig .tc .vmem S64x768 .bf16) (harg6 : arg6.IsWhole) (arg7 : Memref sig .tc .vmem S1024x768 .bf16) (harg7 : arg7.IsWhole) (arg8 : Memref sig .tc .vmem S4096x768 .bf16) (harg8 : arg8.IsWhole) (k0_h1 : k0_cond1 i = 1#1)
  (w : Vec F S4096x384 .i8) (s : Vec F S64x768 .f32)

/-- The first loop fills column block 0. -/
theorem fills_t1 : Fills w s 0 0 4096
    (pb_k0_t1 (F := F) 𝒱 c bd i arg2 harg2 arg3 harg3 arg4 harg4 arg5 harg5 arg6 harg6 arg7 harg7 arg8 harg8 k0_h1 (harg4.unread w) (harg5.unread s) k0_t1_loop.trips) := by
  refine fills_loop w s 0 (by decide +kernel) _ _ rfl (fun k => pb_k0_t1_succ (F := F) 𝒱 c bd i arg2 harg2 arg3 harg3 arg4 harg4 arg5 harg5 arg6 harg6 arg7 harg7 arg8 harg8 k0_h1 _ _ k) fun k => ?_
  have e : (trip_k0_t1 (F := F) 𝒱 c bd i arg2 harg2 arg3 harg3 arg4 harg4 arg5 harg5 arg6 harg6 arg7 harg7 arg8 harg8 k0_h1 (harg4.unread w) (harg5.unread s) k).1
      = tripOrder.map (bandPiece arg4 arg5 (harg4.unread w) (harg5.unread s) (k0_off3 k) (k0_off3_inb i k k0_h1) (k0_off2 k) (k0_off2_inb i k k0_h1) (k0_off1 k) (k0_off1_inb i k k0_h1) k0_pay193) := by
    unfold trip_k0_t1
    dsimp only
    sl_unfold_run_names
    rfl
  show Fills w s _ _ _ (trip_k0_t1 (F := F) 𝒱 c bd i arg2 harg2 arg3 harg3 arg4 harg4 arg5 harg5 arg6 harg6 arg7 harg7 arg8 harg8 k0_h1 (harg4.unread w) (harg5.unread s) k).1
  rw [e]
  exact fills_trip arg4 harg4 arg5 harg5 w s k.val 0 (lt_of_lt_of_eq k.isLt (by decide +kernel)) (by decide) _ _ _ k0_pay193 (k0_off3_eq k) (k0_off2_eq k) (k0_off1_eq k) (by decide +kernel)

/-- The second loop fills column block 1. -/
theorem fills_t2 : Fills w s 1 0 4096
    (pb_k0_t2 (F := F) 𝒱 c bd i arg2 harg2 arg3 harg3 arg4 harg4 arg5 harg5 arg6 harg6 arg7 harg7 arg8 harg8 k0_h1 (harg4.unread w) (harg5.unread s) k0_t2_loop.trips) := by
  refine fills_loop w s 1 (by decide +kernel) _ _ rfl (fun k => pb_k0_t2_succ (F := F) 𝒱 c bd i arg2 harg2 arg3 harg3 arg4 harg4 arg5 harg5 arg6 harg6 arg7 harg7 arg8 harg8 k0_h1 _ _ k) fun k => ?_
  have e : (trip_k0_t2 (F := F) 𝒱 c bd i arg2 harg2 arg3 harg3 arg4 harg4 arg5 harg5 arg6 harg6 arg7 harg7 arg8 harg8 k0_h1 (harg4.unread w) (harg5.unread s) k).1
      = tripOrder.map (bandPiece arg4 arg5 (harg4.unread w) (harg5.unread s) (k0_off6 k) (k0_off6_inb i k k0_h1) (k0_off5 k) (k0_off5_inb i k k0_h1) (k0_off4 k) (k0_off4_inb i k k0_h1) k0_pay195) := by
    unfold trip_k0_t2
    dsimp only
    sl_unfold_run_names
    rfl
  show Fills w s _ _ _ (trip_k0_t2 (F := F) 𝒱 c bd i arg2 harg2 arg3 harg3 arg4 harg4 arg5 harg5 arg6 harg6 arg7 harg7 arg8 harg8 k0_h1 (harg4.unread w) (harg5.unread s) k).1
  rw [e]
  exact fills_trip arg4 harg4 arg5 harg5 w s k.val 1 (lt_of_lt_of_eq k.isLt (by decide +kernel)) (by decide) _ _ _ k0_pay195 (k0_off6_eq k) (k0_off5_eq k) (k0_off4_eq k) (by decide +kernel)

/-- The third loop fills column block 2. -/
theorem fills_t3 : Fills w s 2 0 4096
    (pb_k0_t3 (F := F) 𝒱 c bd i arg2 harg2 arg3 harg3 arg4 harg4 arg5 harg5 arg6 harg6 arg7 harg7 arg8 harg8 k0_h1 (harg4.unread w) (harg5.unread s) k0_t3_loop.trips) := by
  refine fills_loop w s 2 (by decide +kernel) _ _ rfl (fun k => pb_k0_t3_succ (F := F) 𝒱 c bd i arg2 harg2 arg3 harg3 arg4 harg4 arg5 harg5 arg6 harg6 arg7 harg7 arg8 harg8 k0_h1 _ _ k) fun k => ?_
  have e : (trip_k0_t3 (F := F) 𝒱 c bd i arg2 harg2 arg3 harg3 arg4 harg4 arg5 harg5 arg6 harg6 arg7 harg7 arg8 harg8 k0_h1 (harg4.unread w) (harg5.unread s) k).1
      = tripOrder.map (bandPiece arg4 arg5 (harg4.unread w) (harg5.unread s) (k0_off9 k) (k0_off9_inb i k k0_h1) (k0_off8 k) (k0_off8_inb i k k0_h1) (k0_off7 k) (k0_off7_inb i k k0_h1) k0_pay197) := by
    unfold trip_k0_t3
    dsimp only
    sl_unfold_run_names
    rfl
  show Fills w s _ _ _ (trip_k0_t3 (F := F) 𝒱 c bd i arg2 harg2 arg3 harg3 arg4 harg4 arg5 harg5 arg6 harg6 arg7 harg7 arg8 harg8 k0_h1 (harg4.unread w) (harg5.unread s) k).1
  rw [e]
  exact fills_trip arg4 harg4 arg5 harg5 w s k.val 2 (lt_of_lt_of_eq k.isLt (by decide +kernel)) (by decide) _ _ _ k0_pay197 (k0_off9_eq k) (k0_off8_eq k) (k0_off7_eq k) (by decide +kernel)

/-- The fourth loop fills column block 3. -/
theorem fills_t4 : Fills w s 3 0 4096
    (pb_k0_t4 (F := F) 𝒱 c bd i arg2 harg2 arg3 harg3 arg4 harg4 arg5 harg5 arg6 harg6 arg7 harg7 arg8 harg8 k0_h1 (harg4.unread w) (harg5.unread s) k0_t4_loop.trips) := by
  refine fills_loop w s 3 (by decide +kernel) _ _ rfl (fun k => pb_k0_t4_succ (F := F) 𝒱 c bd i arg2 harg2 arg3 harg3 arg4 harg4 arg5 harg5 arg6 harg6 arg7 harg7 arg8 harg8 k0_h1 _ _ k) fun k => ?_
  have e : (trip_k0_t4 (F := F) 𝒱 c bd i arg2 harg2 arg3 harg3 arg4 harg4 arg5 harg5 arg6 harg6 arg7 harg7 arg8 harg8 k0_h1 (harg4.unread w) (harg5.unread s) k).1
      = tripOrder.map (bandPiece arg4 arg5 (harg4.unread w) (harg5.unread s) (k0_off12 k) (k0_off12_inb i k k0_h1) (k0_off11 k) (k0_off11_inb i k k0_h1) (k0_off10 k) (k0_off10_inb i k k0_h1) k0_pay199) := by
    unfold trip_k0_t4
    dsimp only
    sl_unfold_run_names
    rfl
  show Fills w s _ _ _ (trip_k0_t4 (F := F) 𝒱 c bd i arg2 harg2 arg3 harg3 arg4 harg4 arg5 harg5 arg6 harg6 arg7 harg7 arg8 harg8 k0_h1 (harg4.unread w) (harg5.unread s) k).1
  rw [e]
  exact fills_trip arg4 harg4 arg5 harg5 w s k.val 3 (lt_of_lt_of_eq k.isLt (by decide +kernel)) (by decide) _ _ _ k0_pay199 (k0_off12_eq k) (k0_off11_eq k) (k0_off10_eq k) (by decide +kernel)

/-- The fifth loop fills column block 4. -/
theorem fills_t5 : Fills w s 4 0 4096
    (pb_k0_t5 (F := F) 𝒱 c bd i arg2 harg2 arg3 harg3 arg4 harg4 arg5 harg5 arg6 harg6 arg7 harg7 arg8 harg8 k0_h1 lanes k0_pay192 k0_pay201 (harg4.unread w) (harg5.unread s) k0_t5_loop.trips) := by
  refine fills_loop w s 4 (by decide +kernel) _ _ rfl (fun k => pb_k0_t5_succ (F := F) 𝒱 c bd i arg2 harg2 arg3 harg3 arg4 harg4 arg5 harg5 arg6 harg6 arg7 harg7 arg8 harg8 k0_h1 lanes k0_pay192 k0_pay201 _ _ k) fun k => ?_
  have e : (trip_k0_t5 (F := F) 𝒱 c bd i arg2 harg2 arg3 harg3 arg4 harg4 arg5 harg5 arg6 harg6 arg7 harg7 arg8 harg8 k0_h1 lanes k0_pay192 k0_pay201 (harg4.unread w) (harg5.unread s) k).1
      = tripOrder.map (bandPiece arg4 arg5 (harg4.unread w) (harg5.unread s) (k0_off15 k) (k0_off15_inb i k k0_h1) (k0_off14 k) (k0_off14_inb i k k0_h1) (k0_off13 k) (k0_off13_inb i k k0_h1) (k0_pay1 lanes k0_pay201)) := by
    unfold trip_k0_t5
    dsimp only
    sl_unfold_run_names
    rfl
  show Fills w s _ _ _ (trip_k0_t5 (F := F) 𝒱 c bd i arg2 harg2 arg3 harg3 arg4 harg4 arg5 harg5 arg6 harg6 arg7 harg7 arg8 harg8 k0_h1 lanes k0_pay192 k0_pay201 (harg4.unread w) (harg5.unread s) k).1
  rw [e]
  exact fills_trip arg4 harg4 arg5 harg5 w s k.val 4 (lt_of_lt_of_eq k.isLt (by decide +kernel)) (by decide) _ _ _ (k0_pay1 lanes k0_pay201) (k0_off15_eq k) (k0_off14_eq k) (k0_off13_eq k) (by decide +kernel)

/-- The sixth loop fills column block 5. -/
theorem fills_t6 : Fills w s 5 0 4096
    (pb_k0_t6 (F := F) 𝒱 c bd i arg2 harg2 arg3 harg3 arg4 harg4 arg5 harg5 arg6 harg6 arg7 harg7 arg8 harg8 k0_h1 lanes k0_pay192 (harg4.unread w) (harg5.unread s) k0_t6_loop.trips) := by
  refine fills_loop w s 5 (by decide +kernel) _ _ rfl (fun k => pb_k0_t6_succ (F := F) 𝒱 c bd i arg2 harg2 arg3 harg3 arg4 harg4 arg5 harg5 arg6 harg6 arg7 harg7 arg8 harg8 k0_h1 lanes k0_pay192 _ _ k) fun k => ?_
  have e : (trip_k0_t6 (F := F) 𝒱 c bd i arg2 harg2 arg3 harg3 arg4 harg4 arg5 harg5 arg6 harg6 arg7 harg7 arg8 harg8 k0_h1 lanes k0_pay192 (harg4.unread w) (harg5.unread s) k).1
      = tripOrder.map (bandPiece arg4 arg5 (harg4.unread w) (harg5.unread s) (k0_off18 k) (k0_off18_inb i k k0_h1) (k0_off17 k) (k0_off17_inb i k k0_h1) (k0_off16 k) (k0_off16_inb i k k0_h1) (k0_pay3 lanes)) := by
    unfold trip_k0_t6
    dsimp only
    sl_unfold_run_names
    rfl
  show Fills w s _ _ _ (trip_k0_t6 (F := F) 𝒱 c bd i arg2 harg2 arg3 harg3 arg4 harg4 arg5 harg5 arg6 harg6 arg7 harg7 arg8 harg8 k0_h1 lanes k0_pay192 (harg4.unread w) (harg5.unread s) k).1
  rw [e]
  exact fills_trip arg4 harg4 arg5 harg5 w s k.val 5 (lt_of_lt_of_eq k.isLt (by decide +kernel)) (by decide) _ _ _ (k0_pay3 lanes) (k0_off18_eq k) (k0_off17_eq k) (k0_off16_eq k) (by decide +kernel)

/-- After the six loops the scratch reads the whole tile, whatever it held. -/
theorem read_loops (f : arg8.view.ty.Contents (Elt F)) : arg8.view.read (Elt F) (arg8.view.writes (Elt F) f
    (pb_k0_t6 (F := F) 𝒱 c bd i arg2 harg2 arg3 harg3 arg4 harg4 arg5 harg5 arg6 harg6 arg7 harg7 arg8 harg8 k0_h1 lanes k0_pay192 (harg4.unread w) (harg5.unread s) k0_t6_loop.trips ++
      (pb_k0_t5 (F := F) 𝒱 c bd i arg2 harg2 arg3 harg3 arg4 harg4 arg5 harg5 arg6 harg6 arg7 harg7 arg8 harg8 k0_h1 lanes k0_pay192 k0_pay201 (harg4.unread w) (harg5.unread s) k0_t5_loop.trips ++
      (pb_k0_t4 (F := F) 𝒱 c bd i arg2 harg2 arg3 harg3 arg4 harg4 arg5 harg5 arg6 harg6 arg7 harg7 arg8 harg8 k0_h1 (harg4.unread w) (harg5.unread s) k0_t4_loop.trips ++
      (pb_k0_t3 (F := F) 𝒱 c bd i arg2 harg2 arg3 harg3 arg4 harg4 arg5 harg5 arg6 harg6 arg7 harg7 arg8 harg8 k0_h1 (harg4.unread w) (harg5.unread s) k0_t3_loop.trips ++
      (pb_k0_t2 (F := F) 𝒱 c bd i arg2 harg2 arg3 harg3 arg4 harg4 arg5 harg5 arg6 harg6 arg7 harg7 arg8 harg8 k0_h1 (harg4.unread w) (harg5.unread s) k0_t2_loop.trips ++
      (pb_k0_t1 (F := F) 𝒱 c bd i arg2 harg2 arg3 harg3 arg4 harg4 arg5 harg5 arg6 harg6 arg7 harg7 arg8 harg8 k0_h1 (harg4.unread w) (harg5.unread s) k0_t1_loop.trips))))))) = tileOf w s :=
  read_fills w s arg8.view f
    (fills_t1 𝒱 c bd i arg2 harg2 arg3 harg3 arg4 harg4 arg5 harg5 arg6 harg6 arg7 harg7 arg8 harg8 k0_h1 w s) (fills_t2 𝒱 c bd i arg2 harg2 arg3 harg3 arg4 harg4 arg5 harg5 arg6 harg6 arg7 harg7 arg8 harg8 k0_h1 w s) (fills_t3 𝒱 c bd i arg2 harg2 arg3 harg3 arg4 harg4 arg5 harg5 arg6 harg6 arg7 harg7 arg8 harg8 k0_h1 w s)
    (fills_t4 𝒱 c bd i arg2 harg2 arg3 harg3 arg4 harg4 arg5 harg5 arg6 harg6 arg7 harg7 arg8 harg8 k0_h1 w s) (fills_t5 𝒱 c bd i arg2 harg2 arg3 harg3 arg4 harg4 arg5 harg5 arg6 harg6 arg7 harg7 arg8 harg8 k0_h1 w s) (fills_t6 𝒱 c bd i arg2 harg2 arg3 harg3 arg4 harg4 arg5 harg5 arg6 harg6 arg7 harg7 arg8 harg8 k0_h1 w s)

end Cert.KernelIdeal.Mm

end
-- ==== Proof.Body.lean ====
/- What the matmul kernel's body does at one grid point: at a point that starts a column block it fills the scratch
   with the dequantised tile; at every point it stores the product block computed from the scratch. -/
module

public import proofs.«01_k».proof.Proof.Gen.KernelIdeal.Frame
public import proofs.«01_k».proof.Proof.Stores
public import Idealize.ShloMosaic.Lib.VecWindow

@[expose] public section

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option maxHeartbeats 1000000 in
/-- The body at a point that starts a column block: whatever the scratch held, it ends at the dequantised tile of
    the packed weights and scales, and the output block at the product of the activations with that tile plus the
    low-rank product. -/
theorem run_first (c : Dev nD) (i : grid0.Coords) (arg2 : Memref sig .tc .vmem S1024x4096 .bf16) (harg2 : arg2.IsWhole) (arg3 : Memref sig .tc .vmem S1024x64 .bf16) (harg3 : arg3.IsWhole) (arg4 : Memref sig .tc .vmem S4096x384 .i8) (harg4 : arg4.IsWhole) (arg5 : Memref sig .tc .vmem S64x768 .f32) (harg5 : arg5.IsWhole) (arg6 : Memref sig .tc .vmem S64x768 .bf16) (harg6 : arg6.IsWhole) (arg7 : Memref sig .tc .vmem S1024x768 .bf16) (harg7 : arg7.IsWhole) (arg8 : Memref sig .tc .vmem S4096x768 .bf16) (harg8 : arg8.IsWhole) (hc0 : k0_cond1 i = 1#1)
    (x0 : Vec F S1024x4096 .bf16) (x1 : Vec F S1024x64 .bf16) (x2 : Vec F S4096x384 .i8) (x3 : Vec F S64x768 .f32) (x4 : Vec F S64x768 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x0 (tileOf x2 x3) x1 x4) ∗ owns (c : Thread nD τ) arg8 fullShare (tileOf x2 x3)) -∗ K ⟨⟩))
          ⊢ wp frame (wpE (defs₀ (F := F)) Variants.none c none) E (cc0_matmul i arg2 harg2 arg3 harg3 arg4 harg4 arg5 harg5 arg6 harg6 arg7 harg7 arg8 harg8) K := by
    intro E K
    simp only [cc0_matmul_eq_skeleton]; unfold cc0_matmul_skel
    simp only [k0_part67_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full _ _ _ _ _).trans ?_
      refine congr (congr (congr (congrArg k0_pay5 ?_) ?_) ?_) ?_
      · exact (View.readAt_full _ _ _).trans (harg2.read_unread _)
      · sl_unfold_run_names
        exact (View.readAt_full _ _ _).trans (read_loops _ c _ i arg2 harg2 arg3 harg3 arg4 harg4 arg5 harg5 arg6 harg6 arg7 harg7 arg8 harg8 hc0 x2 x3 fs0)
      · exact (View.readAt_full _ _ _).trans (harg3.read_unread _)
      · exact (View.readAt_full _ _ _).trans (harg6.read_unread _)
    iexists _; isplitr; swap; · iexact HS0
    ipureintro
    exact read_loops _ c _ i arg2 harg2 arg3 harg3 arg4 harg4 arg5 harg5 arg6 harg6 arg7 harg7 arg8 harg8 hc0 x2 x3 fs0

set_option maxHeartbeats 1000000 in
/-- The body at any other point: the scratch stays at the tile `d` it holds, and the output block ends at the product of
    the activations with that tile plus the low-rank product. -/
theorem run_later (c : Dev nD) (i : grid0.Coords) (arg2 : Memref sig .tc .vmem S1024x4096 .bf16) (harg2 : arg2.IsWhole) (arg3 : Memref sig .tc .vmem S1024x64 .bf16) (harg3 : arg3.IsWhole) (arg4 : Memref sig .tc .vmem S4096x384 .i8) (harg4 : arg4.IsWhole) (arg5 : Memref sig .tc .vmem S64x768 .f32) (harg5 : arg5.IsWhole) (arg6 : Memref sig .tc .vmem S64x768 .bf16) (harg6 : arg6.IsWhole) (arg7 : Memref sig .tc .vmem S1024x768 .bf16) (harg7 : arg7.IsWhole) (arg8 : Memref sig .tc .vmem S4096x768 .bf16) (harg8 : arg8.IsWhole) (hc0 : ¬ k0_cond1 i = 1#1)
    (x0 : Vec F S1024x4096 .bf16) (x1 : Vec F S1024x64 .bf16) (x2 : Vec F S4096x384 .i8) (x3 : Vec F S64x768 .f32) (x4 : Vec F S64x768 .bf16) (d : Vec F S4096x768 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay5 x0 d x1 x4) ∗ owns (c : Thread nD τ) arg8 fullShare d) -∗ K ⟨⟩))
          ⊢ wp frame (wpE (defs₀ (F := F)) Variants.none c none) E (cc0_matmul i arg2 harg2 arg3 harg3 arg4 harg4 arg5 harg5 arg6 harg6 arg7 harg7 arg8 harg8) K := by
    intro E K
    simp only [cc0_matmul_eq_skeleton]; unfold cc0_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_full _ _ _ _ _).trans ?_
      refine congr (congr (congr (congrArg k0_pay5 ?_) ?_) ?_) ?_
      · exact (View.readAt_full _ _ _).trans (harg2.read_unread _)
      · exact (View.readAt_full _ _ _).trans (harg8.read_unread _)
      · exact (View.readAt_full _ _ _).trans (harg3.read_unread _)
      · exact (View.readAt_full _ _ _).trans (harg6.read_unread _)
    iexists _; isplitr; swap; · iexact HS0
    ipureintro; exact harg8.read_unread _

end Cert.KernelIdeal.Mm

end
-- ==== Proof.Blocks.lean ====
/- What block of its array each window of the matmul kernel holds at a grid point, entry by entry. Grid point `t` of the
   36 works on column block `t / 4` (768 result columns, 384 packed weight columns) and row block `t % 4` (1024 rows). -/
module

public import proofs.«01_k».proof.Proof.Gen.KernelIdeal.Frame
public import Idealize.ShloMosaic.Lib.Pipeline.ValueKit

@[expose] public section

set_option maxRecDepth 16384

noncomputable section

namespace Cert.KernelIdeal.Mm

open Idealize.ShloMosaic Idealize.ShloMosaic.TcCoe Idealize.ShloMosaic.Tactic
open Idealize.SL.Sem
open Cert.KernelIdeal.Gen

variable {F : FTy → Type} [FloatOps F]
variable (m : (ℓ : Loc nD τ sig) → Buf (Elt F) ℓ)

theorem idx0 : ∀ t : Fin cfg0.N, win0_0.index t = ![t.val % 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![0, t.val / 4] := (by decide +kernel : ∀ t : Fin grid0.N, _)
theorem idx3 : ∀ t : Fin cfg0.N, win0_3.index t = ![0, t.val / 4] := (by decide +kernel : ∀ t : Fin grid0.N, _)
theorem idx4 : ∀ t : Fin cfg0.N, win0_4.index t = ![0, t.val / 4] := (by decide +kernel : ∀ t : Fin grid0.N, _)
theorem idx5 : ∀ t : Fin cfg0.N, win0_5.index t = ![t.val % 4, t.val / 4] := (by decide +kernel : ∀ t : Fin grid0.N, _)

/-- The activations' block at point `t`: all 4096 columns, rows from `1024 * (t % 4)` on. -/
theorem iblk0_apply (c : Dev nD) (t : Fin cfg0.N) (r : Fin 1024) (k : Fin 4096) (h : 1024 * (t.val % 4) + r.val < 4096) :
    (iblk m c 0 t : Vec F S1024x4096 .bf16) (ValueIdx.ix2 r k) = V m c main_arg0 (ValueIdx.ix2 ⟨1024 * (t.val % 4) + r.val, h⟩ k) := by
  blk_simp [iblk]
  refine congrArg (V m c main_arg0) ?_
  blk_ext [idx0]
  exact congrArg (· + _) (Nat.mul_comm _ _)

/-- The low-rank activations' block at point `t`: all 64 columns, rows from `1024 * (t % 4)` on. -/
theorem iblk1_apply (c : Dev nD) (t : Fin cfg0.N) (r : Fin 1024) (k : Fin 64) (h : 1024 * (t.val % 4) + r.val < 4096) :
    (iblk m c 1 t : Vec F S1024x64 .bf16) (ValueIdx.ix2 r k) = V m c main_arg1 (ValueIdx.ix2 ⟨1024 * (t.val % 4) + r.val, h⟩ k) := by
  blk_simp [iblk]
  refine congrArg (V m c main_arg1) ?_
  blk_ext [idx1]
  exact congrArg (· + _) (Nat.mul_comm _ _)

/-- The packed weights' block at point `t`: all 4096 rows, packed columns from `384 * (t / 4)` on. -/
theorem iblk2_apply (c : Dev nD) (t : Fin cfg0.N) (r : Fin 4096) (l : Fin 384) (h : 384 * (t.val / 4) + l.val < 3456) :
    (iblk m c 2 t : Vec F S4096x384 .i8) (ValueIdx.ix2 r l) = V m c main_arg2 (ValueIdx.ix2 r ⟨384 * (t.val / 4) + l.val, h⟩) := by
  blk_simp [iblk]
  refine congrArg (V m c main_arg2) ?_
  blk_ext [idx2]
  exact congrArg (· + _) (Nat.mul_comm _ _)

/-- The weight scales' block at point `t`: all 64 groups, columns from `768 * (t / 4)` on. -/
theorem iblk3_apply (c : Dev nD) (t : Fin cfg0.N) (g : Fin 64) (l : Fin 768) (h : 768 * (t.val / 4) + l.val < 6912) :
    (iblk m c 3 t : Vec F S64x768 .f32) (ValueIdx.ix2 g l) = V m c main_arg3 (ValueIdx.ix2 g ⟨768 * (t.val / 4) + l.val, h⟩) := by
  blk_simp [iblk]
  refine congrArg (V m c main_arg3) ?_
  blk_ext [idx3]
  exact congrArg (· + _) (Nat.mul_comm _ _)

/-- The low-rank weights' block at point `t`: all 64 rows, columns from `768 * (t / 4)` on. -/
theorem iblk4_apply (c : Dev nD) (t : Fin cfg0.N) (g : Fin 64) (l : Fin 768) (h : 768 * (t.val / 4) + l.val < 6912) :
    (iblk m c 4 t : Vec F S64x768 .bf16) (ValueIdx.ix2 g l) = V m c main_arg4 (ValueIdx.ix2 g ⟨768 * (t.val / 4) + l.val, h⟩) := by
  blk_simp [iblk]
  refine congrArg (V m c main_arg4) ?_
  blk_ext [idx4]
  exact congrArg (· + _) (Nat.mul_comm _ _)

/-- Two grid points of one column block hold the same packed weights. -/
theorem iblk2_same (c : Dev nD) (t s : Fin cfg0.N) (h : t.val / 4 = s.val / 4) :
    (iblk m c 2 t : Vec F S4096x384 .i8) = iblk m c 2 s := by
  have hs : s.val < 36 := Nat.lt_of_lt_of_eq s.isLt N_0
  funext y
  obtain ⟨r, l, rfl⟩ : ∃ r l, y = ValueIdx.ix2 r l := ⟨y 0, y 1, ValueIdx.eq_ix2 y⟩
  have hl := l.isLt
  rw [iblk2_apply m c t r l (by omega), iblk2_apply m c s r l (by omega)]
  simp only [h]

/-- Two grid points of one column block hold the same weight scales. -/
theorem iblk3_same (c : Dev nD) (t s : Fin cfg0.N) (h : t.val / 4 = s.val / 4) :
    (iblk m c 3 t : Vec F S64x768 .f32) = iblk m c 3 s := by
  have hs : s.val < 36 := Nat.lt_of_lt_of_eq s.isLt N_0
  funext y
  obtain ⟨r, l, rfl⟩ : ∃ r l, y = ValueIdx.ix2 r l := ⟨y 0, y 1, ValueIdx.eq_ix2 y⟩
  have hl := l.isLt
  rw [iblk3_apply m c t r l (by omega), iblk3_apply m c s r l (by omega)]
  simp only [h]

end Cert.KernelIdeal.Mm

end
-- ==== Proof.Frames.lean ====
/- The run of the ideal matmul kernel, with what it leaves in the result: at every grid point the scratch holds the
   dequantised weight tile of the point's column block, so the block stored there is the product with that tile. -/
module

public import proofs.«01_k».proof.Proof.Body
public import proofs.«01_k».proof.Proof.Blocks

@[expose] public section

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body refills the scratch exactly at the points that are multiples of 4: those that start a column block. -/
theorem fills_at : ∀ t : Fin cfg0.N, k0_cond1 (grid0.coords t) = 1#1 ↔ t.val % 4 = 0 :=
  (fun t => by
    have ht : t.val < 36 := Nat.lt_of_lt_of_eq t.isLt N_0
    have e0 : (grid0.coords t 0).val = t.val / 4 % 9 := Pipeline.Grid.coords_val t 0 (by decide) rfl
    have e1 : (grid0.coords t 1).val = t.val / 1 % 4 := Pipeline.Grid.coords_val t 1 (by decide) rfl
    simp only [k0_cond1, e0, e1]
    word_cmp
   : ∀ t : Fin grid0.N, k0_cond1 (grid0.coords t) = 1#1 ↔ t.val % 4 = 0)

/-! ## The buffers the body is called with -/

abbrev ms0_0 (t : Fin cfg0.N) : Memref sig .tc .vmem S1024x4096 .bf16 := win0_0.stage (cfg0.slots t 0)
abbrev ms0_1 (t : Fin cfg0.N) : Memref sig .tc .vmem S1024x64 .bf16 := win0_1.stage (cfg0.slots t 1)
abbrev ms0_2 (t : Fin cfg0.N) : Memref sig .tc .vmem S4096x384 .i8 := win0_2.stage (cfg0.slots t 2)
abbrev ms0_3 (t : Fin cfg0.N) : Memref sig .tc .vmem S64x768 .f32 := win0_3.stage (cfg0.slots t 3)
abbrev ms0_4 (t : Fin cfg0.N) : Memref sig .tc .vmem S64x768 .bf16 := win0_4.stage (cfg0.slots t 4)
abbrev ms0_5 (t : Fin cfg0.N) : Memref sig .tc .vmem S1024x768 .bf16 := win0_5.stage (cfg0.slots t 5)
/-- The scratch that holds the dequantised tile. -/
abbrev scM0_0 : Memref sig .tc .vmem S4096x768 .bf16 := Memref.whole cc0_scratch0

/-- The pipeline's own invariant: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the scratch holds -/

/-- The dequantised tile of point `t`'s column block. -/
def tile (c : Dev nD) (t : Fin cfg0.N) : Vec F S4096x768 .bf16 := tileOf (iblk m c 2 t) (iblk m c 3 t)

/-- Two points of one column block have the same tile. -/
theorem tile_same (c : Dev nD) (t s : Fin cfg0.N) (h : t.val / 4 = s.val / 4) : tile m c t = tile m c s := by
  unfold tile; rw [iblk2_same m c t s h, iblk3_same m c t s h]

/-- The result block point `t` stores. -/
def block (c : Dev nD) (t : Fin cfg0.N) : Vec F S1024x768 .bf16 := k0_pay5 (iblk m c 0 t) (tile m c t) (iblk m c 1 t) (iblk m c 4 t)

/-- What the body keeps between points: before point `n > 0` the scratch holds the tile of the point before. -/
def held (c : Dev nD) (n : ℕ) : sProp 𝕄 :=
  iprop((∃ d, owns (c : Thread nD τ) scM0_0 fullShare d ∗ ⌜∀ s : Fin cfg0.N, s.val + 1 = n → d = tile m c s⌝) ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => block m c t
  Φ t := held m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = block m c t := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

theorem Phi_castSucc (c : Dev nD) (t : Fin cfg0.N) : (dats m 0 c).Φ t.castSucc = held m c t.val := by
  dsimp only [dats]; exact Pipeline.Dat.Φ_castSucc (fun n _ => held m c n) t
theorem Phi_succ (c : Dev nD) (t : Fin cfg0.N) : (dats m 0 c).Φ t.succ = held m c (t.val + 1) := by
  dsimp only [dats]; rfl

set_option maxHeartbeats 800000 in
/-- The body at any point takes `bodyPre` to `bodyPost`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [Phi_castSucc, Phi_succ, show (dats m 0 c).owesAt () t.succ = (dats m 0 c).owesAt () t.castSucc from rfl,
    after0_0, after0_1, after0_2, after0_3, after0_4, after0_5]
  unfold held
  have hN : t.val < 36 := lt_of_lt_of_eq t.isLt (show cfg0.N = 36 from N_0)
  have keep : ∀ s : Fin cfg0.N, s.val + 1 = t.val + 1 → tile m c t = tile m c s := fun s hs => by
    rw [show s = t from Fin.ext (by omega)]
  by_cases h0 : t.val % 4 = 0
  · iintro ⟨⟨⟨%ds, HS0, -⟩, Hg⟩, Ho, ⟨%d0, H0⟩, ⟨%d1, H1⟩, ⟨%d2, H2⟩, ⟨%d3, H3⟩, ⟨%d4, H4⟩, ⟨%d5, H5⟩⟩
    iapply ((run_first c (grid0.coords t) _ _ _ _ _ _ _ _ _ _ _ _ _ _ ((fills_at t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexists _; iexact HS0
    iintro ⟨H0, H1, H2, H3, H4, H5, HS0⟩
    isplitl [HS0 Hg]
    · isplitl [HS0]
      · iexists _; isplitl; · iexact HS0
        ipureintro; exact keep
      iexact Hg
    isplitl [Ho]; · iexact Ho
    isplitl [H0]; · iexact H0
    isplitl [H1]; · iexact H1
    isplitl [H2]; · iexact H2
    isplitl [H3]; · iexact H3
    isplitl [H4]; · iexact H4
    iexact H5
  · iintro ⟨⟨⟨%ds, HS0, %hds⟩, Hg⟩, Ho, ⟨%d0, H0⟩, ⟨%d1, H1⟩, ⟨%d2, H2⟩, ⟨%d3, H3⟩, ⟨%d4, H4⟩, ⟨%d5, H5⟩⟩
    have hp : t.val - 1 < cfg0.N := Nat.lt_of_le_of_lt (Nat.sub_le _ _) t.isLt
    obtain rfl : ds = tile m c t :=
      (hds ⟨t.val - 1, hp⟩ (by show t.val - 1 + 1 = t.val; omega)).trans (tile_same m c _ _ (by show (t.val - 1) / 4 = t.val / 4; omega))
    iapply ((run_later c (grid0.coords t) _ _ _ _ _ _ _ _ _ _ _ _ _ _ (fun h => h0 ((fills_at t).mp h)) (iblk m c 0 t) (iblk m c 1 t) (iblk m c 2 t) (iblk m c 3 t) (iblk m c 4 t) (tile m c t)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, H5, HS0⟩
    isplitl [HS0 Hg]
    · isplitl [HS0]
      · iexists _; isplitl; · iexact HS0
        ipureintro; exact keep
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's entry for the kernel is the body as the pipeline calls it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is asked of the scratch. -/
theorem hin (c : Dev nD) : (Pipeline.ΦA spec0 c : sProp 𝕄) ⊢ (dats m 0 c).Φ 0 := by
  rw [PhiA0_eq, show (dats m 0 c).Φ 0 = held m c 0 from rfl]
  unfold held
  iintro ⟨⟨%d, H⟩, Hg⟩
  isplitl [H]
  · iexists _; isplitl; · iexact H
    ipureintro; intro s hs; exact absurd hs (Nat.succ_ne_zero _)
  iexact Hg

/-- After the last point what the scratch holds is dropped. -/
theorem hout (c : Dev nD) : (dats m 0 c).Φ (Fin.last cfg0.N) ⊢ (Pipeline.ΦA spec0 c : sProp 𝕄) := by
  rw [PhiA0_eq, show (dats m 0 c).Φ (Fin.last cfg0.N) = held m c cfg0.N from rfl]
  unfold held
  iintro ⟨⟨%d, H, -⟩, Hg⟩
  isplitl [H]
  · iexists _; iexact H
  iexact Hg

set_option backward.isDefEq.respectTransparency.types false in
/-- Every run of the kernel ends, with each window's array at what the stored blocks leave in it and every semaphore
    counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run of the kernel ends with its arguments unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every run of the kernel ends with its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Mm

end
-- ==== Proof.Code.lean ====
/- The four-bit code as a number: what the kernel makes of half a byte (its high half read as a signed byte, times
   1/16) and what the reference makes of it (shift, mask, sign-extend by `(x ^ 8) - 8`) are the same integer. -/
module

public import proofs.«01_k».proof.Proof.Nibble
public import Idealize.ShloMosaic.PureOps.Ideal.Laws

@[expose] public section

noncomputable section

namespace Cert.Int4

open Idealize.ShloMosaic

/-- The reference's code of half a byte, as a word: the byte shifted right by `s`, its low four bits kept and
    sign-extended. -/
def refCode (b : BitVec 8) (s : BitVec 32) : BitVec 32 :=
  IntOp.subi (IntOp.xori (IntOp.andi (IntOp.shrsi .host (b.setWidth 32) s) 15#32) 8#32) 8#32

/-- The reference's shift at column `n`: 4 at the odd columns, 0 at the even. -/
theorem shift_eq (n : Nat) :
    IntOp.muli (IntOp.andi (BitVec.ofNat 32 n) 1#32) 4#32 = if decide (n % 2 = 1) then 4#32 else 0#32 := by
  have h : IntOp.andi (BitVec.ofNat 32 n) 1#32 = BitVec.ofNat 32 (n % 2) := by
    apply BitVec.eq_of_toNat_eq
    simp only [IntOp.andi, BitVec.toNat_and, BitVec.toNat_ofNat]
    rw [show 1 % 2 ^ 32 = 1 from rfl, Nat.and_one_is_mod]
    omega
  rw [h]
  rcases Nat.mod_two_eq_zero_or_one n with e | e <;> rw [e] <;> decide

/-- The high half of a byte, read as a signed byte, is sixteen times the reference's code. -/
theorem highHalf_toInt (b : BitVec 8) (odd : Bool) :
    (highHalf b odd).toInt = 16 * (refCode b (if odd then 4#32 else 0#32)).toInt := by
  revert b
  cases odd <;> decide +kernel

/-- The bf16 constant the kernel multiplies by is 1/16. -/
theorem sixteenth : Ideal.ofBits .bf16 0x3D80#16 = ((1 / 16 : ℝ) : EReal) := by
  simp [Ideal.ofBits, Ideal.ieee]
  norm_num
  rw [← EReal.coe_mul]
  norm_num

/-- The kernel's number for half a byte is the reference's. -/
theorem code_eq (b : BitVec 8) (odd : Bool) :
    (((highHalf b odd).toInt : ℝ) : EReal) * Ideal.ofBits .bf16 0x3D80#16
      = (((refCode b (if odd then 4#32 else 0#32)).toInt : ℝ) : EReal) := by
  rw [sixteenth, ← EReal.coe_mul, highHalf_toInt]
  congr 1
  push_cast
  ring

end Cert.Int4

end
-- ==== Proof.Array.lean ====
/- What the ideal matmul kernel leaves in the result array, entry by entry, over the extended reals. -/
module

public import proofs.«01_k».proof.Proof.Frames
public import proofs.«01_k».proof.Proof.Code
public import Idealize.ShloMosaic.Lib.MatmulPlain

@[expose] public section

set_option maxRecDepth 16384

noncomputable section

namespace Cert.KernelIdeal.Mm

open Idealize.ShloMosaic Idealize.ShloMosaic.TcCoe Idealize.ShloMosaic.Tactic
open Idealize.SL.Sem
open Cert.KernelIdeal.Gen Cert.Int4

variable (m : (ℓ : Loc nD τ sig) → Buf (Elt Ideal) ℓ)

/-- The dequantised weight at row `k`, result column `n`: the signed code in half a byte, times the scale of its
    group of 64 rows. -/
def weight (w : Vec Ideal S4096x3456 .i8) (s : Vec Ideal S64x6912 .f32) (k : Fin 4096) (n : Fin 6912) : EReal :=
  (((highHalf (w (ValueIdx.ix2 k ⟨n.val / 2, by omega⟩)) (decide (n.val % 2 = 1))).toInt : ℝ) : EReal) * Ideal.ofBits .bf16 0x3D80#16
    * s (ValueIdx.ix2 ⟨k.val / 64, by omega⟩ n)

/-- The result at row `r`, column `n`: the activations' row times the column of dequantised weights, plus the
    low-rank activations' row times the low-rank weights' column. -/
def entry (x : Vec Ideal S4096x4096 .bf16) (u : Vec Ideal S4096x64 .bf16) (w : Vec Ideal S4096x3456 .i8)
    (s : Vec Ideal S64x6912 .f32) (l : Vec Ideal S64x6912 .bf16) (r : Fin 4096) (n : Fin 6912) : EReal :=
  (∑ k : Fin 4096, x (ValueIdx.ix2 r k) * weight w s k n) + ∑ k : Fin 64, u (ValueIdx.ix2 r k) * l (ValueIdx.ix2 k n)

/-- The result array. -/
def result (c : Dev nD) : Vec Ideal S4096x6912 .bf16 := fun y =>
  entry (V m c main_arg0) (V m c main_arg1) (V m c main_arg2) (V m c main_arg3) (V m c main_arg4) (y 0) (y 1)

theorem dot_plain : dot_S1024x4096_S4096x768_S1024x768_1_0_0_1_n_n = DotDims.plain 1024 4096 768 := rfl
theorem dot_lowrank : dot_S1024x64_S64x768_S1024x768_1_0_0_1_n_n = DotDims.plain 1024 64 768 := rfl

/-- The stored block at an entry, as two sums. -/
theorem pay_apply (x : Vec Ideal S1024x4096 .bf16) (d : Vec Ideal S4096x768 .bf16) (u : Vec Ideal S1024x64 .bf16)
    (l : Vec Ideal S64x768 .bf16) (r : Fin 1024) (n : Fin 768) :
    (k0_pay5 x d u l (ValueIdx.ix2 r n) : EReal)
      = (∑ k : Fin 4096, (x (ValueIdx.ix2 r k) : EReal) * d (ValueIdx.ix2 k n)) + ∑ k : Fin 64, (u (ValueIdx.ix2 r k) : EReal) * l (ValueIdx.ix2 k n) := by
  have z : ∀ y : S1024x768.Idx, (constant (F := Ideal) S1024x768 .f32 0x00000000#32 y : EReal) = 0 := fun _ => Ideal.ofBits_zero_f32
  show (FloatOps.matmul (F := Ideal) dot_S1024x4096_S4096x768_S1024x768_1_0_0_1_n_n none x d (constant S1024x768 .f32 0x00000000#32) (ValueIdx.ix2 r n) : EReal)
      + (FloatOps.matmul (F := Ideal) dot_S1024x64_S64x768_S1024x768_1_0_0_1_n_n none u l (constant S1024x768 .f32 0x00000000#32) (ValueIdx.ix2 r n) : EReal) = _
  rw [dot_plain, dot_lowrank, Ideal.matmul_plain_apply, Ideal.matmul_plain_apply, z, zero_add, zero_add]

/-- The tile at an entry is the weight of its column of the array. -/
theorem tile_apply (c : Dev nD) (t : Fin cfg0.N) (k : Fin 4096) (l : Fin 768) (h : 768 * (t.val / 4) + l.val < 6912) :
    (tile m c t (ValueIdx.ix2 k l) : EReal) = weight (V m c main_arg2) (V m c main_arg3) k ⟨768 * (t.val / 4) + l.val, h⟩ := by
  show (((highHalf ((iblk m c 2 t : Vec Ideal S4096x384 .i8) (ValueIdx.ix2 k ⟨l.val / 2, _⟩)) (decide (l.val % 2 = 1))).toInt : ℝ) : EReal)
      * Ideal.ofBits .bf16 0x3D80#16 * (iblk m c 3 t : Vec Ideal S64x768 .f32) (ValueIdx.ix2 ⟨k.val / 64, _⟩ l) = _
  rw [iblk2_apply m c t k _ (by show 384 * (t.val / 4) + l.val / 2 < 3456; omega), iblk3_apply m c t _ l h]
  unfold weight
  have e1 : 384 * (t.val / 4) + l.val / 2 = (768 * (t.val / 4) + l.val) / 2 := by omega
  have e2 : l.val % 2 = (768 * (t.val / 4) + l.val) % 2 := by omega
  simp only [e1, e2]

/-- The block point `t` stores is the result array's block there. -/
theorem block_apply (c : Dev nD) (t : Fin cfg0.N) (r : Fin 1024) (l : Fin 768) (hr : 1024 * (t.val % 4) + r.val < 4096)
    (h : 768 * (t.val / 4) + l.val < 6912) :
    block m c t (ValueIdx.ix2 r l) = result m c (ValueIdx.ix2 ⟨1024 * (t.val % 4) + r.val, hr⟩ ⟨768 * (t.val / 4) + l.val, h⟩) := by
  refine (pay_apply _ _ _ _ r l).trans ?_
  show _ = entry _ _ _ _ _ ⟨1024 * (t.val % 4) + r.val, hr⟩ ⟨768 * (t.val / 4) + l.val, h⟩
  unfold entry
  refine congr (congrArg _ (Finset.sum_congr rfl fun k _ => ?_)) (Finset.sum_congr rfl fun k _ => ?_)
  · rw [iblk0_apply m c t r k hr, tile_apply m c t k l h]
  · rw [iblk1_apply m c t r k hr, iblk4_apply m c t k l h]

/-- After every grid point the result window's array is the result array. -/
theorem final_out (c : Dev nD) : (dats m 0 c).arrAt 5 cfg0.N = result m c := by
  refine (dats m 0 c).arrAt_eq_of_covers 5 _ (by decide +kernel) fun t hf y => ?_
  blk_simp
  rw [after0_5]
  obtain ⟨r, l, rfl⟩ : ∃ (r : Fin 1024) (l : Fin 768), y = ValueIdx.ix2 r l := ⟨y 0, y 1, ValueIdx.eq_ix2 y⟩
  have ht : t.val < 36 := Nat.lt_of_lt_of_eq t.isLt N_0
  have hr := r.isLt
  have hl := l.isLt
  refine (block_apply m c t r l (by omega) (by omega)).trans (congrArg (result m c) ?_)
  blk_ext [idx5]
  · exact congrArg (· + _) (Nat.mul_comm _ _)
  · exact congrArg (· + _) (Nat.mul_comm _ _)

end Cert.KernelIdeal.Mm

end
-- ==== Proof.RefValue.lean ====
/- What the reference leaves in its result, entry by entry, over the extended reals. -/
module

public import proofs.«01_k».proof.Proof.Gen.ReferenceIdeal.Read
public import proofs.«01_k».proof.Proof.Code

@[expose] public section

set_option maxRecDepth 16384

noncomputable section

namespace Cert.ReferenceIdeal.Mm

open Cert.ReferenceIdeal Cert.ReferenceIdeal.Gen Cert.ReferenceIdeal.Read Cert.Int4
open Idealize.ShloMosaic Idealize.ShloMosaic.TcCoe Idealize.SL.Sem

/-- The reference's code word at row `k`, column `n`. -/
theorem code_apply (w : Vec Ideal S4096x3456 .i8) (k : Fin 4096) (n : Fin 6912) (i : S4096x6912.Idx) (h0 : (i 0).val = k.val) (h1 : (i 1).val = n.val) :
    val_main_v16 (F := Ideal) w i
      = refCode (w (ValueIdx.ix2 k ⟨n.val / 2, by omega⟩)) (if decide (n.val % 2 = 1) then 4#32 else 0#32) := by
  rw [val_main_v16_apply, val_main_v14_apply, val_main_v12_apply, val_main_v10_apply, val_main_v2_apply,
    val_main_v1_apply, val_main_v0_apply, val_main_v9_apply, val_main_v8_apply, val_main_v7_apply, val_main_v5_apply,
    val_main_v3_apply, val_main_v4_apply, val_main_v6_apply, val_main_v11_apply, val_main_v13_apply, val_main_v15_apply]
  unfold refCode
  rw [← shift_eq]
  have e : idx_main_v0 (idx_main_v1 i) = ValueIdx.ix2 k ⟨n.val / 2, by omega⟩ := by
    funext a
    match a with
    | ⟨0, _⟩ => exact Fin.ext (by show ((i 0).val * 6912 + (i 1).val) / 6912 = k.val; omega)
    | ⟨1, _⟩ => exact Fin.ext (by show ((i 0).val * 6912 + (i 1).val) / 2 % 3456 = n.val / 2; omega)
  have e1 : ((idx_main_v8 (idx_main_v9 i)) 0).val = n.val := h1
  rw [e, e1]
  rfl

/-- The reference's dequantised weight at row `k`, column `n`: the code times the scale of its group of 64 rows. -/
theorem weight_apply (w : Vec Ideal S4096x3456 .i8) (s : Vec Ideal S64x6912 .f32) (k : Fin 4096) (n : Fin 6912) :
    (val_main_v23 (F := Ideal) w s (ValueIdx.ix2 k n) : EReal)
      = (((refCode (w (ValueIdx.ix2 k ⟨n.val / 2, by omega⟩)) (if decide (n.val % 2 = 1) then 4#32 else 0#32)).toInt : ℝ) : EReal)
        * s (ValueIdx.ix2 ⟨k.val / 64, by omega⟩ n) := by
  rw [val_main_v23_apply, val_main_v22_apply, val_main_v18_apply, val_main_v17_apply, val_main_v21_apply,
    val_main_v20_apply, val_main_v19_apply]
  have hk := k.isLt
  have hn := n.isLt
  rw [code_apply w k n _
    (by show ((((k.val * 6912 + n.val) / 442368 * 64 + (k.val * 6912 + n.val) / 6912 % 64) * 6912 + (k.val * 6912 + n.val) % 6912) / 6912) = k.val; omega)
    (by show ((((k.val * 6912 + n.val) / 442368 * 64 + (k.val * 6912 + n.val) / 6912 % 64) * 6912 + (k.val * 6912 + n.val) % 6912) % 6912) = n.val; omega)]
  have e : idx_main_v20 (idx_main_v21 (idx_main_v23 (ValueIdx.ix2 k n))) = ValueIdx.ix2 ⟨k.val / 64, by omega⟩ n := by
    funext a
    match a with
    | ⟨0, _⟩ => exact Fin.ext (by show (k.val * 6912 + n.val) / 442368 = k.val / 64; omega)
    | ⟨1, _⟩ => exact Fin.ext (by show (k.val * 6912 + n.val) % 6912 = n.val; omega)
  rw [e]
  rfl

/-- The reference's result at row `r`, column `n`. -/
theorem result_apply (x : Vec Ideal S4096x4096 .bf16) (u : Vec Ideal S4096x64 .bf16) (w : Vec Ideal S4096x3456 .i8)
    (s : Vec Ideal S64x6912 .f32) (l : Vec Ideal S64x6912 .bf16) (r : Fin 4096) (n : Fin 6912) :
    (val_main_v27 (F := Ideal) x u w s l (ValueIdx.ix2 r n) : EReal)
      = (∑ k : Fin 4096, (x (ValueIdx.ix2 r k) : EReal) * val_main_v23 (F := Ideal) w s (ValueIdx.ix2 k n))
        + ∑ k : Fin 64, (u (ValueIdx.ix2 r k) : EReal) * l (ValueIdx.ix2 k n) := by
  rw [val_main_v27_apply, val_main_v26_apply, val_main_v24_apply, val_main_v25_apply]
  have e1 : ∀ k, lidx_main_v24 (ValueIdx.ix2 r n) k = ValueIdx.ix2 r k := fun k => funext fun a => match a with | ⟨0, _⟩ => rfl | ⟨1, _⟩ => rfl
  have e2 : ∀ k, ridx_main_v24 (ValueIdx.ix2 r n) k = ValueIdx.ix2 k n := fun k => funext fun a => match a with | ⟨0, _⟩ => rfl | ⟨1, _⟩ => rfl
  have e3 : ∀ k, lidx_main_v25 (ValueIdx.ix2 r n) k = ValueIdx.ix2 r k := fun k => funext fun a => match a with | ⟨0, _⟩ => rfl | ⟨1, _⟩ => rfl
  have e4 : ∀ k, ridx_main_v25 (ValueIdx.ix2 r n) k = ValueIdx.ix2 k n := fun k => funext fun a => match a with | ⟨0, _⟩ => rfl | ⟨1, _⟩ => rfl
  simp only [e1, e2, e3, e4]
  rfl

end Cert.ReferenceIdeal.Mm

end
-- ==== Proof.Equation.lean ====
/- The equation: over the extended reals the kernel's result and the reference's agree at every entry. -/
module

public import proofs.«01_k».proof.Proof.Array
public import proofs.«01_k».proof.Proof.RefValue

@[expose] public section

noncomputable section

namespace Cert.Mm

open Idealize.ShloMosaic Idealize.ShloMosaic.TcCoe Idealize.SL.Sem
open Cert.Int4

/-- The kernel's dequantised weight is the reference's. -/
theorem weight_eq (w : Vec Ideal Cert.KernelIdeal.S4096x3456 .i8) (s : Vec Ideal Cert.KernelIdeal.S64x6912 .f32) (k : Fin 4096) (n : Fin 6912) :
    Cert.KernelIdeal.Mm.weight w s k n = Cert.ReferenceIdeal.Read.val_main_v23 (F := Ideal) w s (ValueIdx.ix2 k n) := by
  rw [Cert.ReferenceIdeal.Mm.weight_apply]
  unfold Cert.KernelIdeal.Mm.weight
  rw [code_eq]

/-- The kernel's result array is the reference's result. -/
theorem result_eq (x : Vec Ideal Cert.KernelIdeal.S4096x4096 .bf16) (u : Vec Ideal Cert.KernelIdeal.S4096x64 .bf16)
    (w : Vec Ideal Cert.KernelIdeal.S4096x3456 .i8) (s : Vec Ideal Cert.KernelIdeal.S64x6912 .f32)
    (l : Vec Ideal Cert.KernelIdeal.S64x6912 .bf16) :
    (fun y => Cert.KernelIdeal.Mm.entry x u w s l (y 0) (y 1) : Vec Ideal Cert.KernelIdeal.S4096x6912 .bf16)
      = Cert.ReferenceIdeal.Read.val_main_v27 (F := Ideal) x u w s l := by
  funext y
  obtain ⟨r, n, rfl⟩ : ∃ (r : Fin 4096) (n : Fin 6912), y = ValueIdx.ix2 r n := ⟨y 0, y 1, ValueIdx.eq_ix2 y⟩
  refine Eq.trans ?_ (Cert.ReferenceIdeal.Mm.result_apply x u w s l r n).symm
  show Cert.KernelIdeal.Mm.entry x u w s l r n = _
  unfold Cert.KernelIdeal.Mm.entry
  simp only [weight_eq]

end Cert.Mm

end
-- ==== Proof.lean ====
/- The certificate: the frames of the kernel, of its ideal reading and of the reference, and the equality of the two
   results over the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.Frames
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- Every run of the reference ends with its arguments unchanged and every semaphore counter at zero: it has none. -/
theorem frame_reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run m g)

/-- From memories that agree on the arguments the ideal kernel and the reference both end, with the same result. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Mm.result m c, ?_, ?_⟩
  · refine (θ_run Cert.KernelIdeal.defs _ _).mono (fun r h c => ⟨?_, h.2 c⟩)
      (θ_run_and (Cert.KernelIdeal.Mm.run_main m g) (Cert.KernelIdeal.Mm.unchanged m g))
    exact ((h.1 c).1 5).trans (Cert.KernelIdeal.Mm.final_out m c)
  · refine (θ_run Cert.ReferenceIdeal.defs _ _).mono (fun r h c => ⟨?_, (h c).2⟩) (Cert.ReferenceIdeal.Value.run m' g')
    obtain ⟨e0, e1, e2, e3, e4⟩ := hargs c
    refine (h c).1.trans ((Cert.ReferenceIdeal.Read.val_main_v27_eq _ _ _ _ _).trans ?_)
    rw [e0, e1, e2, e3, e4]
    exact (Cert.Mm.result_eq _ _ _ _ _).symm

/-- Everything that is claimed. -/
theorem claim : Cert.Claim :=
  ⟨Cert.Kernel.Gen.facts, Cert.KernelIdeal.Gen.facts, Cert.ReferenceIdeal.Gen.facts,
    fun m g _ => Cert.Kernel.Mm.frame m g, fun m g _ => Cert.KernelIdeal.Mm.frame m g, frame_reference, trivial, algebraic⟩

end Cert.Proof

end
